-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S2048x2048 : Shape := ⟨2, ![2048, 2048]⟩
abbrev S4 : Shape := ⟨1, ![4]⟩
abbrev S4x15 : Shape := ⟨2, ![4, 15]⟩
abbrev S4096x128 : Shape := ⟨2, ![4096, 128]⟩
abbrev S128x2048 : Shape := ⟨2, ![128, 2048]⟩
abbrev S_ : Shape := ⟨0, ![]⟩
abbrev S1x1 : Shape := ⟨2, ![1, 1]⟩
abbrev S256x512 : Shape := ⟨2, ![256, 512]⟩
abbrev S512x2048 : Shape := ⟨2, ![512, 2048]⟩

abbrev nBuf : Space → Nat
  | .hbm => 5
  | .vmem => 7
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x256, .fp8e4m3⟩
  | .local _ .vmem, ⟨1, _⟩ => ⟨S256x2048, .fp8e5m2⟩
  | .local _ .vmem, ⟨2, _⟩ => ⟨S4096x2048, .f32⟩
  | .local _ .vmem, ⟨3, _⟩ => ⟨S4096x2048, .fp8e4m3⟩
  | .local _ .vmem, ⟨4, _⟩ => ⟨S2048x2048, .fp8e5m2⟩
  | .local _ .vmem, ⟨5, _⟩ => ⟨S4096x2048, .fp8e4m3⟩
  | .local _ .vmem, ⟨6, _⟩ => ⟨S2048x2048, .fp8e5m2⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30 : BitVec 32 := 1#32
  let v49 : BitVec 32 := Scalar.muli v13 c1_i32_30
  let v50 : BitVec 32 := Scalar.addi c0_i32_31 v49
  v50.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_33 : BitVec 32 := 1#32
  let v51 : BitVec 32 := Scalar.muli v24 c1_i32_33
  let v52 : BitVec 32 := Scalar.addi c0_i32_34 v51
  v52.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_38 : BitVec 32 := 1#32
  let v53 : BitVec 32 := Scalar.muli v24 c1_i32_38
  let v54 : BitVec 32 := Scalar.addi c0_i32_39 v53
  v54.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_46 : BitVec 32 := 1#32
  let v61 : BitVec 32 := Scalar.muli v24 c1_i32_46
  let v62 : BitVec 32 := Scalar.addi c0_i32_47 v61
  v62.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_55 : BitVec 32 := 1#32
  let v69 : BitVec 32 := Scalar.muli v13 c1_i32_55
  let v70 : BitVec 32 := Scalar.addi c0_i32_56 v69
  v70.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_63 : BitVec 32 := 1#32
  let v77 : BitVec 32 := Scalar.muli v13 c1_i32_63
  let v78 : BitVec 32 := Scalar.addi c0_i32_64 v77
  v78.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v113 : BitVec 32 := Scalar.muli v24 c1_i32_116
  let v114 : BitVec 32 := Scalar.addi c0_i32_117 v113
  v114.toNat
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_132 : BitVec 32 := 1#32
  let v125 : BitVec 32 := Scalar.muli v24 c1_i32_132
  let v126 : BitVec 32 := Scalar.addi c0_i32_133 v125
  v126.toNat
def k0_dev9 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_149 : BitVec 32 := 1#32
  let v137 : BitVec 32 := Scalar.muli v13 c1_i32_149
  let v138 : BitVec 32 := Scalar.addi c0_i32_150 v137
  v138.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_166 : BitVec 32 := 1#32
  let v149 : BitVec 32 := Scalar.muli v13 c1_i32_166
  let v150 : BitVec 32 := Scalar.addi c0_i32_167 v149
  v150.toNat
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_219 : BitVec 32 := 1#32
  let v185 : BitVec 32 := Scalar.muli v24 c1_i32_219
  let v186 : BitVec 32 := Scalar.addi c0_i32_220 v185
  v186.toNat
def k0_dev12 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_235 : BitVec 32 := 1#32
  let v197 : BitVec 32 := Scalar.muli v24 c1_i32_235
  let v198 : BitVec 32 := Scalar.addi c0_i32_236 v197
  v198.toNat
def k0_dev13 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_252 : BitVec 32 := 1#32
  let v209 : BitVec 32 := Scalar.muli v13 c1_i32_252
  let v210 : BitVec 32 := Scalar.addi c0_i32_253 v209
  v210.toNat
def k0_dev14 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_269 : BitVec 32 := 1#32
  let v221 : BitVec 32 := Scalar.muli v13 c1_i32_269
  let v222 : BitVec 32 := Scalar.addi c0_i32_270 v221
  v222.toNat
def k0_dev15 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_322 : BitVec 32 := 1#32
  let v257 : BitVec 32 := Scalar.muli v24 c1_i32_322
  let v258 : BitVec 32 := Scalar.addi c0_i32_323 v257
  v258.toNat
def k0_dev16 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_338 : BitVec 32 := 1#32
  let v269 : BitVec 32 := Scalar.muli v24 c1_i32_338
  let v270 : BitVec 32 := Scalar.addi c0_i32_339 v269
  v270.toNat
def k0_dev17 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_355 : BitVec 32 := 1#32
  let v281 : BitVec 32 := Scalar.muli v13 c1_i32_355
  let v282 : BitVec 32 := Scalar.addi c0_i32_356 v281
  v282.toNat
def k0_dev18 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_372 : BitVec 32 := 1#32
  let v293 : BitVec 32 := Scalar.muli v13 c1_i32_372
  let v294 : BitVec 32 := Scalar.addi c0_i32_373 v293
  v294.toNat
def k0_dev19 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_424 : BitVec 32 := 1#32
  let v329 : BitVec 32 := Scalar.muli v24 c1_i32_424
  let v330 : BitVec 32 := Scalar.addi c0_i32_425 v329
  v330.toNat
def k0_dev20 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_440 : BitVec 32 := 1#32
  let v341 : BitVec 32 := Scalar.muli v24 c1_i32_440
  let v342 : BitVec 32 := Scalar.addi c0_i32_441 v341
  v342.toNat
def k0_dev21 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_457 : BitVec 32 := 1#32
  let v353 : BitVec 32 := Scalar.muli v13 c1_i32_457
  let v354 : BitVec 32 := Scalar.addi c0_i32_458 v353
  v354.toNat
def k0_dev22 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_474 : BitVec 32 := 1#32
  let v365 : BitVec 32 := Scalar.muli v13 c1_i32_474
  let v366 : BitVec 32 := Scalar.addi c0_i32_475 v365
  v366.toNat
def k0_dev23 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_526 : BitVec 32 := 1#32
  let v401 : BitVec 32 := Scalar.muli v24 c1_i32_526
  let v402 : BitVec 32 := Scalar.addi c0_i32_527 v401
  v402.toNat
def k0_dev24 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_542 : BitVec 32 := 1#32
  let v413 : BitVec 32 := Scalar.muli v24 c1_i32_542
  let v414 : BitVec 32 := Scalar.addi c0_i32_543 v413
  v414.toNat
def k0_dev25 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_559 : BitVec 32 := 1#32
  let v425 : BitVec 32 := Scalar.muli v13 c1_i32_559
  let v426 : BitVec 32 := Scalar.addi c0_i32_560 v425
  v426.toNat
def k0_dev26 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_576 : BitVec 32 := 1#32
  let v437 : BitVec 32 := Scalar.muli v13 c1_i32_576
  let v438 : BitVec 32 := Scalar.addi c0_i32_577 v437
  v438.toNat
def k0_dev27 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_628 : BitVec 32 := 1#32
  let v473 : BitVec 32 := Scalar.muli v24 c1_i32_628
  let v474 : BitVec 32 := Scalar.addi c0_i32_629 v473
  v474.toNat
def k0_dev28 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_644 : BitVec 32 := 1#32
  let v485 : BitVec 32 := Scalar.muli v24 c1_i32_644
  let v486 : BitVec 32 := Scalar.addi c0_i32_645 v485
  v486.toNat
def k0_dev29 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_661 : BitVec 32 := 1#32
  let v497 : BitVec 32 := Scalar.muli v13 c1_i32_661
  let v498 : BitVec 32 := Scalar.addi c0_i32_662 v497
  v498.toNat
def k0_dev30 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_678 : BitVec 32 := 1#32
  let v509 : BitVec 32 := Scalar.muli v13 c1_i32_678
  let v510 : BitVec 32 := Scalar.addi c0_i32_679 v509
  v510.toNat
def k0_dev31 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_730 : BitVec 32 := 1#32
  let v545 : BitVec 32 := Scalar.muli v24 c1_i32_730
  let v546 : BitVec 32 := Scalar.addi c0_i32_731 v545
  v546.toNat
def k0_dev32 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_746 : BitVec 32 := 1#32
  let v557 : BitVec 32 := Scalar.muli v24 c1_i32_746
  let v558 : BitVec 32 := Scalar.addi c0_i32_747 v557
  v558.toNat
def k0_dev33 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_763 : BitVec 32 := 1#32
  let v569 : BitVec 32 := Scalar.muli v13 c1_i32_763
  let v570 : BitVec 32 := Scalar.addi c0_i32_764 v569
  v570.toNat
def k0_dev34 (d0 : Dev nD) : Nat :=
  let c0_i32_781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_780 : BitVec 32 := 1#32
  let v581 : BitVec 32 := Scalar.muli v13 c1_i32_780
  let v582 : BitVec 32 := Scalar.addi c0_i32_781 v581
  v582.toNat
def k0_dev35 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_832 : BitVec 32 := 1#32
  let v617 : BitVec 32 := Scalar.muli v24 c1_i32_832
  let v618 : BitVec 32 := Scalar.addi c0_i32_833 v617
  v618.toNat
def k0_dev36 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_848 : BitVec 32 := 1#32
  let v629 : BitVec 32 := Scalar.muli v24 c1_i32_848
  let v630 : BitVec 32 := Scalar.addi c0_i32_849 v629
  v630.toNat
def k0_dev37 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_865 : BitVec 32 := 1#32
  let v641 : BitVec 32 := Scalar.muli v13 c1_i32_865
  let v642 : BitVec 32 := Scalar.addi c0_i32_866 v641
  v642.toNat
def k0_dev38 (d0 : Dev nD) : Nat :=
  let c0_i32_883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_882 : BitVec 32 := 1#32
  let v653 : BitVec 32 := Scalar.muli v13 c1_i32_882
  let v654 : BitVec 32 := Scalar.addi c0_i32_883 v653
  v654.toNat
def k0_dev39 (d0 : Dev nD) : Nat :=
  let c0_i32_935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_934 : BitVec 32 := 1#32
  let v689 : BitVec 32 := Scalar.muli v24 c1_i32_934
  let v690 : BitVec 32 := Scalar.addi c0_i32_935 v689
  v690.toNat
def k0_dev40 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_950 : BitVec 32 := 1#32
  let v701 : BitVec 32 := Scalar.muli v24 c1_i32_950
  let v702 : BitVec 32 := Scalar.addi c0_i32_951 v701
  v702.toNat
def k0_dev41 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_967 : BitVec 32 := 1#32
  let v713 : BitVec 32 := Scalar.muli v13 c1_i32_967
  let v714 : BitVec 32 := Scalar.addi c0_i32_968 v713
  v714.toNat
def k0_dev42 (d0 : Dev nD) : Nat :=
  let c0_i32_985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_984 : BitVec 32 := 1#32
  let v725 : BitVec 32 := Scalar.muli v13 c1_i32_984
  let v726 : BitVec 32 := Scalar.addi c0_i32_985 v725
  v726.toNat
def k0_dev43 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1036 : BitVec 32 := 1#32
  let v761 : BitVec 32 := Scalar.muli v24 c1_i32_1036
  let v762 : BitVec 32 := Scalar.addi c0_i32_1037 v761
  v762.toNat
def k0_dev44 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1052 : BitVec 32 := 1#32
  let v773 : BitVec 32 := Scalar.muli v24 c1_i32_1052
  let v774 : BitVec 32 := Scalar.addi c0_i32_1053 v773
  v774.toNat
def k0_dev45 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1069 : BitVec 32 := 1#32
  let v785 : BitVec 32 := Scalar.muli v13 c1_i32_1069
  let v786 : BitVec 32 := Scalar.addi c0_i32_1070 v785
  v786.toNat
def k0_dev46 (d0 : Dev nD) : Nat :=
  let c0_i32_1087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1086 : BitVec 32 := 1#32
  let v797 : BitVec 32 := Scalar.muli v13 c1_i32_1086
  let v798 : BitVec 32 := Scalar.addi c0_i32_1087 v797
  v798.toNat
def k0_dev47 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1138 : BitVec 32 := 1#32
  let v833 : BitVec 32 := Scalar.muli v24 c1_i32_1138
  let v834 : BitVec 32 := Scalar.addi c0_i32_1139 v833
  v834.toNat
def k0_dev48 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1154 : BitVec 32 := 1#32
  let v845 : BitVec 32 := Scalar.muli v24 c1_i32_1154
  let v846 : BitVec 32 := Scalar.addi c0_i32_1155 v845
  v846.toNat
def k0_dev49 (d0 : Dev nD) : Nat :=
  let c0_i32_1172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1171 : BitVec 32 := 1#32
  let v857 : BitVec 32 := Scalar.muli v13 c1_i32_1171
  let v858 : BitVec 32 := Scalar.addi c0_i32_1172 v857
  v858.toNat
def k0_dev50 (d0 : Dev nD) : Nat :=
  let c0_i32_1189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1188 : BitVec 32 := 1#32
  let v869 : BitVec 32 := Scalar.muli v13 c1_i32_1188
  let v870 : BitVec 32 := Scalar.addi c0_i32_1189 v869
  v870.toNat
def k0_dev51 (d0 : Dev nD) : Nat :=
  let c0_i32_1241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1240 : BitVec 32 := 1#32
  let v905 : BitVec 32 := Scalar.muli v24 c1_i32_1240
  let v906 : BitVec 32 := Scalar.addi c0_i32_1241 v905
  v906.toNat
def k0_dev52 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1256 : BitVec 32 := 1#32
  let v917 : BitVec 32 := Scalar.muli v24 c1_i32_1256
  let v918 : BitVec 32 := Scalar.addi c0_i32_1257 v917
  v918.toNat
def k0_dev53 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1273 : BitVec 32 := 1#32
  let v929 : BitVec 32 := Scalar.muli v13 c1_i32_1273
  let v930 : BitVec 32 := Scalar.addi c0_i32_1274 v929
  v930.toNat
def k0_dev54 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1290 : BitVec 32 := 1#32
  let v941 : BitVec 32 := Scalar.muli v13 c1_i32_1290
  let v942 : BitVec 32 := Scalar.addi c0_i32_1291 v941
  v942.toNat
def k0_dev55 (d0 : Dev nD) : Nat :=
  let c0_i32_1343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1342 : BitVec 32 := 1#32
  let v977 : BitVec 32 := Scalar.muli v24 c1_i32_1342
  let v978 : BitVec 32 := Scalar.addi c0_i32_1343 v977
  v978.toNat
def k0_dev56 (d0 : Dev nD) : Nat :=
  let c0_i32_1359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1358 : BitVec 32 := 1#32
  let v989 : BitVec 32 := Scalar.muli v24 c1_i32_1358
  let v990 : BitVec 32 := Scalar.addi c0_i32_1359 v989
  v990.toNat
def k0_dev57 (d0 : Dev nD) : Nat :=
  let c0_i32_1376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1375 : BitVec 32 := 1#32
  let v1001 : BitVec 32 := Scalar.muli v13 c1_i32_1375
  let v1002 : BitVec 32 := Scalar.addi c0_i32_1376 v1001
  v1002.toNat
def k0_dev58 (d0 : Dev nD) : Nat :=
  let c0_i32_1393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1392 : BitVec 32 := 1#32
  let v1013 : BitVec 32 := Scalar.muli v13 c1_i32_1392
  let v1014 : BitVec 32 := Scalar.addi c0_i32_1393 v1013
  v1014.toNat
def k0_dev59 (d0 : Dev nD) : Nat :=
  let c0_i32_1445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1444 : BitVec 32 := 1#32
  let v1049 : BitVec 32 := Scalar.muli v24 c1_i32_1444
  let v1050 : BitVec 32 := Scalar.addi c0_i32_1445 v1049
  v1050.toNat
def k0_dev60 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1460 : BitVec 32 := 1#32
  let v1061 : BitVec 32 := Scalar.muli v24 c1_i32_1460
  let v1062 : BitVec 32 := Scalar.addi c0_i32_1461 v1061
  v1062.toNat
def k0_dev61 (d0 : Dev nD) : Nat :=
  let c0_i32_1478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1477 : BitVec 32 := 1#32
  let v1073 : BitVec 32 := Scalar.muli v13 c1_i32_1477
  let v1074 : BitVec 32 := Scalar.addi c0_i32_1478 v1073
  v1074.toNat
def k0_dev62 (d0 : Dev nD) : Nat :=
  let c0_i32_1495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1494 : BitVec 32 := 1#32
  let v1085 : BitVec 32 := Scalar.muli v13 c1_i32_1494
  let v1086 : BitVec 32 := Scalar.addi c0_i32_1495 v1085
  v1086.toNat
@[reducible] def k0_t1_loop : Scf.Loop 32 :=
  let c0_i32_1568 : BitVec 32 := 0#32
  let c4_i32_1569 : BitVec 32 := 4#32
  let v1133 : BitVec 32 := Scalar.addi c0_i32_1568 c4_i32_1569
  let c1_i32_1570 : BitVec 32 := 1#32
  ⟨c0_i32_1568, v1133, c1_i32_1570⟩
def k0_off1 (k0_t1 : Fin k0_t1_loop.trips) : Fin 2 → Nat :=
  let c0_i32_1568 : BitVec 32 := 0#32
  let c1_i32_1570 : BitVec 32 := 1#32
  let arg11 : BitVec 32 := Scf.iv c0_i32_1568 c1_i32_1570 k0_t1
  let c256_i32_1632 : BitVec 32 := 256#32
  let v1149 : BitVec 32 := Scalar.muli arg11 c256_i32_1632
  let v1150 : Index := Scalar.indexCast v1149
  let c0_1633 : Index := 0#32
  ![v1150.toNat, 0]
def k0_off2 (k0_t1 : Fin k0_t1_loop.trips) : Fin 2 → Nat :=
  let c0_i32_1568 : BitVec 32 := 0#32
  let c1_i32_1570 : BitVec 32 := 1#32
  let arg11 : BitVec 32 := Scf.iv c0_i32_1568 c1_i32_1570 k0_t1
  let c256_i32_1632 : BitVec 32 := 256#32
  let v1149 : BitVec 32 := Scalar.muli arg11 c256_i32_1632
  let v1159 : Index := Scalar.indexCast v1149
  let c0_1640 : Index := 0#32
  ![v1159.toNat, 0]
@[reducible] def k0_t2_loop : Scf.Loop 32 :=
  let c4_i32_1572 : BitVec 32 := 4#32
  let c4_i32_1573 : BitVec 32 := 4#32
  let v1134 : BitVec 32 := Scalar.addi c4_i32_1572 c4_i32_1573
  let c1_i32_1574 : BitVec 32 := 1#32
  ⟨c4_i32_1572, v1134, c1_i32_1574⟩
def k0_off3 (k0_t2 : Fin k0_t2_loop.trips) : Fin 2 → Nat :=
  let c4_i32_1572 : BitVec 32 := 4#32
  let c1_i32_1574 : BitVec 32 := 1#32
  let arg11 : BitVec 32 := Scf.iv c4_i32_1572 c1_i32_1574 k0_t2
  let c256_i32_1632 : BitVec 32 := 256#32
  let v1149 : BitVec 32 := Scalar.muli arg11 c256_i32_1632
  let v1150 : Index := Scalar.indexCast v1149
  let c0_1633 : Index := 0#32
  ![v1150.toNat, 0]
def k0_off4 (k0_t2 : Fin k0_t2_loop.trips) : Fin 2 → Nat :=
  let c4_i32_1572 : BitVec 32 := 4#32
  let c1_i32_1574 : BitVec 32 := 1#32
  let arg11 : BitVec 32 := Scf.iv c4_i32_1572 c1_i32_1574 k0_t2
  let c256_i32_1632 : BitVec 32 := 256#32
  let v1149 : BitVec 32 := Scalar.muli arg11 c256_i32_1632
  let v1159 : Index := Scalar.indexCast v1149
  let c0_1640 : Index := 0#32
  ![v1159.toNat, 0]
@[reducible] def k0_t3_loop : Scf.Loop 32 :=
  let c8_i32_1576 : BitVec 32 := 8#32
  let c4_i32_1577 : BitVec 32 := 4#32
  let v1135 : BitVec 32 := Scalar.addi c8_i32_1576 c4_i32_1577
  let c1_i32_1578 : BitVec 32 := 1#32
  ⟨c8_i32_1576, v1135, c1_i32_1578⟩
def k0_off5 (k0_t3 : Fin k0_t3_loop.trips) : Fin 2 → Nat :=
  let c8_i32_1576 : BitVec 32 := 8#32
  let c1_i32_1578 : BitVec 32 := 1#32
  let arg11 : BitVec 32 := Scf.iv c8_i32_1576 c1_i32_1578 k0_t3
  let c256_i32_1632 : BitVec 32 := 256#32
  let v1149 : BitVec 32 := Scalar.muli arg11 c256_i32_1632
  let v1150 : Index := Scalar.indexCast v1149
  let c0_1633 : Index := 0#32
  ![v1150.toNat, 0]
def k0_off6 (k0_t3 : Fin k0_t3_loop.trips) : Fin 2 → Nat :=
  let c8_i32_1576 : BitVec 32 := 8#32
  let c1_i32_1578 : BitVec 32 := 1#32
  let arg11 : BitVec 32 := Scf.iv c8_i32_1576 c1_i32_1578 k0_t3
  let c256_i32_1632 : BitVec 32 := 256#32
  let v1149 : BitVec 32 := Scalar.muli arg11 c256_i32_1632
  let v1159 : Index := Scalar.indexCast v1149
  let c0_1640 : Index := 0#32
  ![v1159.toNat, 0]
@[reducible] def k0_t4_loop : Scf.Loop 32 :=
  let c12_i32_1580 : BitVec 32 := 12#32
  let c4_i32_1581 : BitVec 32 := 4#32
  let v1136 : BitVec 32 := Scalar.addi c12_i32_1580 c4_i32_1581
  let c1_i32_1582 : BitVec 32 := 1#32
  ⟨c12_i32_1580, v1136, c1_i32_1582⟩
def k0_off7 (k0_t4 : Fin k0_t4_loop.trips) : Fin 2 → Nat :=
  let c12_i32_1580 : BitVec 32 := 12#32
  let c1_i32_1582 : BitVec 32 := 1#32
  let arg11 : BitVec 32 := Scf.iv c12_i32_1580 c1_i32_1582 k0_t4
  let c256_i32_1632 : BitVec 32 := 256#32
  let v1149 : BitVec 32 := Scalar.muli arg11 c256_i32_1632
  let v1150 : Index := Scalar.indexCast v1149
  let c0_1633 : Index := 0#32
  ![v1150.toNat, 0]
def k0_off8 (k0_t4 : Fin k0_t4_loop.trips) : Fin 2 → Nat :=
  let c12_i32_1580 : BitVec 32 := 12#32
  let c1_i32_1582 : BitVec 32 := 1#32
  let arg11 : BitVec 32 := Scf.iv c12_i32_1580 c1_i32_1582 k0_t4
  let c256_i32_1632 : BitVec 32 := 256#32
  let v1149 : BitVec 32 := Scalar.muli arg11 c256_i32_1632
  let v1159 : Index := Scalar.indexCast v1149
  let c0_1640 : Index := 0#32
  ![v1159.toNat, 0]
@[reducible] def k0_t5_loop : Scf.Loop 32 :=
  let c0_i32_1584 : BitVec 32 := 0#32
  let c4_i32_1585 : BitVec 32 := 4#32
  let v1137 : BitVec 32 := Scalar.addi c0_i32_1584 c4_i32_1585
  let c1_i32_1586 : BitVec 32 := 1#32
  ⟨c0_i32_1584, v1137, c1_i32_1586⟩
def k0_off9 (k0_t5 : Fin k0_t5_loop.trips) : Fin 2 → Nat :=
  let c0_i32_1584 : BitVec 32 := 0#32
  let c1_i32_1586 : BitVec 32 := 1#32
  let arg11 : BitVec 32 := Scf.iv c0_i32_1584 c1_i32_1586 k0_t5
  let c256_i32_1632 : BitVec 32 := 256#32
  let v1149 : BitVec 32 := Scalar.muli arg11 c256_i32_1632
  let v1150 : Index := Scalar.indexCast v1149
  let c512 : Index := 512#32
  ![v1150.toNat, 512]
def k0_off10 (k0_t5 : Fin k0_t5_loop.trips) : Fin 2 → Nat :=
  let c0_i32_1584 : BitVec 32 := 0#32
  let c1_i32_1586 : BitVec 32 := 1#32
  let arg11 : BitVec 32 := Scf.iv c0_i32_1584 c1_i32_1586 k0_t5
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t6_loop : Scf.Loop 32 :=
  let c4_i32_1588 : BitVec 32 := 4#32
  let c4_i32_1589 : BitVec 32 := 4#32
  let v1138 : BitVec 32 := Scalar.addi c4_i32_1588 c4_i32_1589
  let c1_i32_1590 : BitVec 32 := 1#32
  ⟨c4_i32_1588, v1138, c1_i32_1590⟩
def k0_off11 (k0_t6 : Fin k0_t6_loop.trips) : Fin 2 → Nat :=
  let c4_i32_1588 : BitVec 32 := 4#32
  let c1_i32_1590 : BitVec 32 := 1#32
  let arg11 : BitVec 32 := Scf.iv c4_i32_1588 c1_i32_1590 k0_t6
  let c256_i32_1632 : BitVec 32 := 256#32
  let v1149 : BitVec 32 := Scalar.muli arg11 c256_i32_1632
  let v1150 : Index := Scalar.indexCast v1149
  let c512 : Index := 512#32
  ![v1150.toNat, 512]
def k0_off12 (k0_t6 : Fin k0_t6_loop.trips) : Fin 2 → Nat :=
  let c4_i32_1588 : BitVec 32 := 4#32
  let c1_i32_1590 : BitVec 32 := 1#32
  let arg11 : BitVec 32 := Scf.iv c4_i32_1588 c1_i32_1590 k0_t6
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t7_loop : Scf.Loop 32 :=
  let c8_i32_1592 : BitVec 32 := 8#32
  let c4_i32_1593 : BitVec 32 := 4#32
  let v1139 : BitVec 32 := Scalar.addi c8_i32_1592 c4_i32_1593
  let c1_i32_1594 : BitVec 32 := 1#32
  ⟨c8_i32_1592, v1139, c1_i32_1594⟩
def k0_off13 (k0_t7 : Fin k0_t7_loop.trips) : Fin 2 → Nat :=
  let c8_i32_1592 : BitVec 32 := 8#32
  let c1_i32_1594 : BitVec 32 := 1#32
  let arg11 : BitVec 32 := Scf.iv c8_i32_1592 c1_i32_1594 k0_t7
  let c256_i32_1632 : BitVec 32 := 256#32
  let v1149 : BitVec 32 := Scalar.muli arg11 c256_i32_1632
  let v1150 : Index := Scalar.indexCast v1149
  let c512 : Index := 512#32
  ![v1150.toNat, 512]
def k0_off14 (k0_t7 : Fin k0_t7_loop.trips) : Fin 2 → Nat :=
  let c8_i32_1592 : BitVec 32 := 8#32
  let c1_i32_1594 : BitVec 32 := 1#32
  let arg11 : BitVec 32 := Scf.iv c8_i32_1592 c1_i32_1594 k0_t7
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t8_loop : Scf.Loop 32 :=
  let c12_i32_1596 : BitVec 32 := 12#32
  let c4_i32_1597 : BitVec 32 := 4#32
  let v1140 : BitVec 32 := Scalar.addi c12_i32_1596 c4_i32_1597
  let c1_i32_1598 : BitVec 32 := 1#32
  ⟨c12_i32_1596, v1140, c1_i32_1598⟩
def k0_off15 (k0_t8 : Fin k0_t8_loop.trips) : Fin 2 → Nat :=
  let c12_i32_1596 : BitVec 32 := 12#32
  let c1_i32_1598 : BitVec 32 := 1#32
  let arg11 : BitVec 32 := Scf.iv c12_i32_1596 c1_i32_1598 k0_t8
  let c256_i32_1632 : BitVec 32 := 256#32
  let v1149 : BitVec 32 := Scalar.muli arg11 c256_i32_1632
  let v1150 : Index := Scalar.indexCast v1149
  let c512 : Index := 512#32
  ![v1150.toNat, 512]
def k0_off16 (k0_t8 : Fin k0_t8_loop.trips) : Fin 2 → Nat :=
  let c12_i32_1596 : BitVec 32 := 12#32
  let c1_i32_1598 : BitVec 32 := 1#32
  let arg11 : BitVec 32 := Scf.iv c12_i32_1596 c1_i32_1598 k0_t8
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t9_loop : Scf.Loop 32 :=
  let c0_i32_1600 : BitVec 32 := 0#32
  let c4_i32_1601 : BitVec 32 := 4#32
  let v1141 : BitVec 32 := Scalar.addi c0_i32_1600 c4_i32_1601
  let c1_i32_1602 : BitVec 32 := 1#32
  ⟨c0_i32_1600, v1141, c1_i32_1602⟩
def k0_off17 (k0_t9 : Fin k0_t9_loop.trips) : Fin 2 → Nat :=
  let c0_i32_1600 : BitVec 32 := 0#32
  let c1_i32_1602 : BitVec 32 := 1#32
  let arg11 : BitVec 32 := Scf.iv c0_i32_1600 c1_i32_1602 k0_t9
  let c256_i32_1632 : BitVec 32 := 256#32
  let v1149 : BitVec 32 := Scalar.muli arg11 c256_i32_1632
  let v1150 : Index := Scalar.indexCast v1149
  let c1024 : Index := 1024#32
  ![v1150.toNat, 1024]
def k0_off18 (k0_t9 : Fin k0_t9_loop.trips) : Fin 2 → Nat :=
  let c0_i32_1600 : BitVec 32 := 0#32
  let c1_i32_1602 : BitVec 32 := 1#32
  let arg11 : BitVec 32 := Scf.iv c0_i32_1600 c1_i32_1602 k0_t9
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t10_loop : Scf.Loop 32 :=
  let c4_i32_1604 : BitVec 32 := 4#32
  let c4_i32_1605 : BitVec 32 := 4#32
  let v1142 : BitVec 32 := Scalar.addi c4_i32_1604 c4_i32_1605
  let c1_i32_1606 : BitVec 32 := 1#32
  ⟨c4_i32_1604, v1142, c1_i32_1606⟩
def k0_off19 (k0_t10 : Fin k0_t10_loop.trips) : Fin 2 → Nat :=
  let c4_i32_1604 : BitVec 32 := 4#32
  let c1_i32_1606 : BitVec 32 := 1#32
  let arg11 : BitVec 32 := Scf.iv c4_i32_1604 c1_i32_1606 k0_t10
  let c256_i32_1632 : BitVec 32 := 256#32
  let v1149 : BitVec 32 := Scalar.muli arg11 c256_i32_1632
  let v1150 : Index := Scalar.indexCast v1149
  let c1024 : Index := 1024#32
  ![v1150.toNat, 1024]
def k0_off20 (k0_t10 : Fin k0_t10_loop.trips) : Fin 2 → Nat :=
  let c4_i32_1604 : BitVec 32 := 4#32
  let c1_i32_1606 : BitVec 32 := 1#32
  let arg11 : BitVec 32 := Scf.iv c4_i32_1604 c1_i32_1606 k0_t10
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t11_loop : Scf.Loop 32 :=
  let c8_i32_1608 : BitVec 32 := 8#32
  let c4_i32_1609 : BitVec 32 := 4#32
  let v1143 : BitVec 32 := Scalar.addi c8_i32_1608 c4_i32_1609
  let c1_i32_1610 : BitVec 32 := 1#32
  ⟨c8_i32_1608, v1143, c1_i32_1610⟩
def k0_off21 (k0_t11 : Fin k0_t11_loop.trips) : Fin 2 → Nat :=
  let c8_i32_1608 : BitVec 32 := 8#32
  let c1_i32_1610 : BitVec 32 := 1#32
  let arg11 : BitVec 32 := Scf.iv c8_i32_1608 c1_i32_1610 k0_t11
  let c256_i32_1632 : BitVec 32 := 256#32
  let v1149 : BitVec 32 := Scalar.muli arg11 c256_i32_1632
  let v1150 : Index := Scalar.indexCast v1149
  let c1024 : Index := 1024#32
  ![v1150.toNat, 1024]
def k0_off22 (k0_t11 : Fin k0_t11_loop.trips) : Fin 2 → Nat :=
  let c8_i32_1608 : BitVec 32 := 8#32
  let c1_i32_1610 : BitVec 32 := 1#32
  let arg11 : BitVec 32 := Scf.iv c8_i32_1608 c1_i32_1610 k0_t11
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t12_loop : Scf.Loop 32 :=
  let c12_i32_1612 : BitVec 32 := 12#32
  let c4_i32_1613 : BitVec 32 := 4#32
  let v1144 : BitVec 32 := Scalar.addi c12_i32_1612 c4_i32_1613
  let c1_i32_1614 : BitVec 32 := 1#32
  ⟨c12_i32_1612, v1144, c1_i32_1614⟩
def k0_off23 (k0_t12 : Fin k0_t12_loop.trips) : Fin 2 → Nat :=
  let c12_i32_1612 : BitVec 32 := 12#32
  let c1_i32_1614 : BitVec 32 := 1#32
  let arg11 : BitVec 32 := Scf.iv c12_i32_1612 c1_i32_1614 k0_t12
  let c256_i32_1632 : BitVec 32 := 256#32
  let v1149 : BitVec 32 := Scalar.muli arg11 c256_i32_1632
  let v1150 : Index := Scalar.indexCast v1149
  let c1024 : Index := 1024#32
  ![v1150.toNat, 1024]
def k0_off24 (k0_t12 : Fin k0_t12_loop.trips) : Fin 2 → Nat :=
  let c12_i32_1612 : BitVec 32 := 12#32
  let c1_i32_1614 : BitVec 32 := 1#32
  let arg11 : BitVec 32 := Scf.iv c12_i32_1612 c1_i32_1614 k0_t12
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t13_loop : Scf.Loop 32 :=
  let c0_i32_1616 : BitVec 32 := 0#32
  let c4_i32_1617 : BitVec 32 := 4#32
  let v1145 : BitVec 32 := Scalar.addi c0_i32_1616 c4_i32_1617
  let c1_i32_1618 : BitVec 32 := 1#32
  ⟨c0_i32_1616, v1145, c1_i32_1618⟩
def k0_off25 (k0_t13 : Fin k0_t13_loop.trips) : Fin 2 → Nat :=
  let c0_i32_1616 : BitVec 32 := 0#32
  let c1_i32_1618 : BitVec 32 := 1#32
  let arg11 : BitVec 32 := Scf.iv c0_i32_1616 c1_i32_1618 k0_t13
  let c256_i32_1632 : BitVec 32 := 256#32
  let v1149 : BitVec 32 := Scalar.muli arg11 c256_i32_1632
  let v1150 : Index := Scalar.indexCast v1149
  let c1536 : Index := 1536#32
  ![v1150.toNat, 1536]
def k0_off26 (k0_t13 : Fin k0_t13_loop.trips) : Fin 2 → Nat :=
  let c0_i32_1616 : BitVec 32 := 0#32
  let c1_i32_1618 : BitVec 32 := 1#32
  let arg11 : BitVec 32 := Scf.iv c0_i32_1616 c1_i32_1618 k0_t13
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t14_loop : Scf.Loop 32 :=
  let c4_i32_1620 : BitVec 32 := 4#32
  let c4_i32_1621 : BitVec 32 := 4#32
  let v1146 : BitVec 32 := Scalar.addi c4_i32_1620 c4_i32_1621
  let c1_i32_1622 : BitVec 32 := 1#32
  ⟨c4_i32_1620, v1146, c1_i32_1622⟩
def k0_off27 (k0_t14 : Fin k0_t14_loop.trips) : Fin 2 → Nat :=
  let c4_i32_1620 : BitVec 32 := 4#32
  let c1_i32_1622 : BitVec 32 := 1#32
  let arg11 : BitVec 32 := Scf.iv c4_i32_1620 c1_i32_1622 k0_t14
  let c256_i32_1632 : BitVec 32 := 256#32
  let v1149 : BitVec 32 := Scalar.muli arg11 c256_i32_1632
  let v1150 : Index := Scalar.indexCast v1149
  let c1536 : Index := 1536#32
  ![v1150.toNat, 1536]
def k0_off28 (k0_t14 : Fin k0_t14_loop.trips) : Fin 2 → Nat :=
  let c4_i32_1620 : BitVec 32 := 4#32
  let c1_i32_1622 : BitVec 32 := 1#32
  let arg11 : BitVec 32 := Scf.iv c4_i32_1620 c1_i32_1622 k0_t14
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t15_loop : Scf.Loop 32 :=
  let c8_i32_1624 : BitVec 32 := 8#32
  let c4_i32_1625 : BitVec 32 := 4#32
  let v1147 : BitVec 32 := Scalar.addi c8_i32_1624 c4_i32_1625
  let c1_i32_1626 : BitVec 32 := 1#32
  ⟨c8_i32_1624, v1147, c1_i32_1626⟩
def k0_off29 (k0_t15 : Fin k0_t15_loop.trips) : Fin 2 → Nat :=
  let c8_i32_1624 : BitVec 32 := 8#32
  let c1_i32_1626 : BitVec 32 := 1#32
  let arg11 : BitVec 32 := Scf.iv c8_i32_1624 c1_i32_1626 k0_t15
  let c256_i32_1632 : BitVec 32 := 256#32
  let v1149 : BitVec 32 := Scalar.muli arg11 c256_i32_1632
  let v1150 : Index := Scalar.indexCast v1149
  let c1536 : Index := 1536#32
  ![v1150.toNat, 1536]
def k0_off30 (k0_t15 : Fin k0_t15_loop.trips) : Fin 2 → Nat :=
  let c8_i32_1624 : BitVec 32 := 8#32
  let c1_i32_1626 : BitVec 32 := 1#32
  let arg11 : BitVec 32 := Scf.iv c8_i32_1624 c1_i32_1626 k0_t15
  let c256_i32_1632 : BitVec 32 := 256#32
  let v1149 : BitVec 32 := Scalar.muli arg11 c256_i32_1632
  let v1158 : Index := Scalar.indexCast v1149
  let c0_1639 : Index := 0#32
  ![v1158.toNat, 0]
@[reducible] def k0_t16_loop : Scf.Loop 32 :=
  let c12_i32_1628 : BitVec 32 := 12#32
  let c4_i32_1629 : BitVec 32 := 4#32
  let v1148 : BitVec 32 := Scalar.addi c12_i32_1628 c4_i32_1629
  let c1_i32_1630 : BitVec 32 := 1#32
  ⟨c12_i32_1628, v1148, c1_i32_1630⟩
def k0_off31 (k0_t16 : Fin k0_t16_loop.trips) : Fin 2 → Nat :=
  let c12_i32_1628 : BitVec 32 := 12#32
  let c1_i32_1630 : BitVec 32 := 1#32
  let arg11 : BitVec 32 := Scf.iv c12_i32_1628 c1_i32_1630 k0_t16
  let c256_i32_1632 : BitVec 32 := 256#32
  let v1149 : BitVec 32 := Scalar.muli arg11 c256_i32_1632
  let v1150 : Index := Scalar.indexCast v1149
  let c1536 : Index := 1536#32
  ![v1150.toNat, 1536]
def k0_off32 (k0_t16 : Fin k0_t16_loop.trips) : Fin 2 → Nat :=
  let c12_i32_1628 : BitVec 32 := 12#32
  let c1_i32_1630 : BitVec 32 := 1#32
  let arg11 : BitVec 32 := Scf.iv c12_i32_1628 c1_i32_1630 k0_t16
  let c256_i32_1632 : BitVec 32 := 256#32
  let v1149 : BitVec 32 := Scalar.muli arg11 c256_i32_1632
  let v1158 : Index := Scalar.indexCast v1149
  let c0_1639 : Index := 0#32
  ![v1158.toNat, 0]
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Text.lean ====
module

public import proofs.«01_k».proof.Proof.Gen.KernelIdeal.Skeleton

@[expose] public section

noncomputable section

namespace Cert.KernelIdeal.Proof

open Idealize.ShloMosaic Idealize.SL.Sem Cert.KernelIdeal Cert.KernelIdeal.Gen

variable {F : FTy → Type} [FloatOps F]

/-- The columns of slot `s` lie inside the buffer. -/
theorem x_inb (s : Fin 16) : ∀ a, (![0, 128 * s.val] : Fin 2 → Nat) a + S4096x128.size a ≤ S4096x2048.size a := by
  revert s; decide

/-- The rows of slot `s` lie inside the buffer. -/
theorem w_inb (s : Fin 16) : ∀ a, (![128 * s.val, 0] : Fin 2 → Nat) a + S128x2048.size a ≤ S2048x2048.size a := by
  revert s; decide

/-- Slot `s` of a buffer of gathered columns. -/
def xslot (b : Memref sig .tc .vmem S4096x2048 .fp8e4m3) (s : Fin 16) : Memref sig .tc .vmem S4096x128 .fp8e4m3 :=
  b.slice (Rect.unit (s := S4096x2048) ![0, 128 * s.val] S4096x128.size (x_inb s)) (fun _ => rfl)

/-- Slot `s` of a buffer of gathered rows. -/
def wslot (b : Memref sig .tc .vmem S2048x2048 .fp8e5m2) (s : Fin 16) : Memref sig .tc .vmem S128x2048 .fp8e5m2 :=
  b.slice (Rect.unit (s := S2048x2048) ![128 * s.val, 0] S128x2048.size (w_inb s)) (fun _ => rfl)

/-- The columns of a slot are whole words of memory. -/
theorem x_words (s : Fin 16) :
    (Rect.unit (s := S4096x2048) ![0, 128 * s.val] S4096x128.size (x_inb s)).WholeWords (EltTy.packing .fp8e4m3) := by
  revert s; decide

/-- The rows of a slot are whole words of memory. -/
theorem w_words (s : Fin 16) :
    (Rect.unit (s := S2048x2048) ![128 * s.val, 0] S128x2048.size (w_inb s)).WholeWords (EltTy.packing .fp8e5m2) := by
  revert s; decide

/-- A transfer of a slot of columns touches no other word. -/
theorem xslot_exact {b : Memref sig .tc .vmem S4096x2048 .fp8e4m3} (hb : b.IsWhole) (s : Fin 16) :
    (xslot b s).view.WordExact := hb.wordExact_slice rfl _ (x_words s)

/-- A transfer of a slot of rows touches no other word. -/
theorem wslot_exact {b : Memref sig .tc .vmem S2048x2048 .fp8e5m2} (hb : b.IsWhole) (s : Fin 16) :
    (wslot b s).view.WordExact := hb.wordExact_slice rfl _ (w_words s)

/-- One of the four streams that travel round the ring: the sixteen slots its blocks
    pass through and the neighbour it is sent to. -/
structure Lane where
  sh : Shape
  e : EltTy
  slot : Fin 16 → Memref sig .tc .vmem sh e
  exact : ∀ s, (slot s).view.WordExact
  here : ∀ s, (slot s).view.ref.isScScratch = false
  next : Dev nD → Dev nD

/-- The left neighbour. -/
def lft (c : Dev nD) : Dev nD := ⟨k0_dev1 c, k0_dev1_lt c⟩
/-- The right neighbour. -/
def rgt (c : Dev nD) : Dev nD := ⟨k0_dev2 c, k0_dev2_lt c⟩

/-- The four lanes: columns and rows rightwards, columns and rows leftwards. -/
def lane : Fin 4 → Lane
  | 0 => ⟨S4096x128, .fp8e4m3, xslot (Memref.whole cc0_scratch0), xslot_exact (Memref.isWhole_whole _), fun _ => rfl, rgt⟩
  | 1 => ⟨S128x2048, .fp8e5m2, wslot (Memref.whole cc0_scratch1), wslot_exact (Memref.isWhole_whole _), fun _ => rfl, rgt⟩
  | 2 => ⟨S4096x128, .fp8e4m3, xslot (Memref.whole cc0_scratch2), xslot_exact (Memref.isWhole_whole _), fun _ => rfl, lft⟩
  | 3 => ⟨S128x2048, .fp8e5m2, wslot (Memref.whole cc0_scratch3), wslot_exact (Memref.isWhole_whole _), fun _ => rfl, lft⟩

/-- Lane `l`'s sending semaphore. -/
def sendSem (l : Fin 4) : DmaSem sig := ⟨5 + l.val, by have := l.isLt; show _ < 69; omega⟩
/-- Lane `l`'s receiving semaphore of hop `h`. -/
def recvSem (l : Fin 4) (h : Fin 15) : DmaSem sig := ⟨9 + 15 * l.val + h.val, by have := l.isLt; have := h.isLt; show _ < 69; omega⟩

/-- The program of the kernel, on the tensor core. -/
abbrev P (F : FTy → Type) := Prog (TpuEff nD τ sig (Elt F) Λ₀ .tc)

/-- Send lane `l`'s slot `h` to the neighbour's slot `h + 1`. -/
def sendOp (l : Fin 4) (h : Fin 15) (c : Dev nD) : TpuEff nD τ sig (Elt F) Λ₀ .tc PUnit :=
  .enqueueDma ((lane l).slot h.castSucc) (.remote (Dev.tc ((lane l).next c)) ((lane l).slot h.succ) (.dma (sendSem l)) ((lane l).here _))
    (.dma (recvSem l h)) ((lane l).exact _) ((lane l).exact _) ⟨⟨rfl, Or.inl rfl⟩, trivial⟩

/-- Wait until hop `h` of lane `l` is sent. -/
def waitSOp (l : Fin 4) (h : Fin 15) : TpuEff nD τ sig (Elt F) Λ₀ .tc PUnit :=
  .waitDma2 (sendSem l) ((lane l).slot h.succ) ((lane l).slot h.castSucc) ((lane l).exact _) ((lane l).exact _)

/-- Wait until hop `h` of lane `l` is received. -/
def waitROp (l : Fin 4) (h : Fin 15) : TpuEff nD τ sig (Elt F) Λ₀ .tc PUnit :=
  .waitDma2 (recvSem l h) ((lane l).slot h.castSucc) ((lane l).slot h.succ) ((lane l).exact _) ((lane l).exact _)

/-- Wait for the four blocks of hop `h`. -/
def recvs (h : Fin 15) (k : P F PUnit) : P F PUnit :=
  .op (waitROp 0 h) fun _ => .op (waitROp 1 h) fun _ => .op (waitROp 2 h) fun _ => .op (waitROp 3 h) fun _ => k

/-- Free lane `l`'s sending semaphore of hop `h`, then send hop `h + 1`. -/
def resend (l : Fin 4) (h : Fin 15) (h' : Fin 15) (c : Dev nD) (k : P F PUnit) : P F PUnit :=
  .op (waitSOp l h) fun _ => .op (sendOp l h' c) fun _ => k

/-- Hop `h'`, after hop `h`. -/
def hop (h h' : Fin 15) (c : Dev nD) (k : P F PUnit) : P F PUnit :=
  resend 0 h h' c <| resend 1 h h' c <| resend 2 h h' c <| resend 3 h h' c <| recvs h' k

/-- Hop 0: send the four own blocks, wait for four of the neighbours'. -/
def firstHop (c : Dev nD) (k : P F PUnit) : P F PUnit :=
  .op (sendOp 0 0 c) fun _ => .op (sendOp 1 0 c) fun _ => .op (sendOp 2 0 c) fun _ => .op (sendOp 3 0 c) fun _ => recvs 0 k

/-- Wait until the last hop is sent. -/
def drain (k : P F PUnit) : P F PUnit :=
  .op (waitSOp 0 14) fun _ => .op (waitSOp 1 14) fun _ => .op (waitSOp 2 14) fun _ => .op (waitSOp 3 14) fun _ => k

/-- The first `n` of the later hops. -/
def hops (c : Dev nD) : (n : ℕ) → n < 15 → P F PUnit → P F PUnit
  | 0, _, k => k
  | n + 1, hn, k => hops c n (by omega) (hop ⟨n, by omega⟩ ⟨n + 1, hn⟩ c k)

/-- The whole gathering: fifteen hops. -/
def gather (c : Dev nD) (k : P F PUnit) : P F PUnit := firstHop c <| hops c 14 (by decide) <| drain k

/-! ## Filling the first slots -/

/-- The device's block of `x`. -/
abbrev A0 : Memref sig .tc .vmem S4096x256 .fp8e4m3 := Memref.whole cc0_stg0_0
/-- The device's block of `w`. -/
abbrev A1 : Memref sig .tc .vmem S256x2048 .fp8e5m2 := Memref.whole cc0_stg1_0
/-- The scale of `x`. -/
abbrev A2 : Memref sig .tc .smem S1 .f32 := Memref.whole cc0_stg2_0
/-- The scale of `w`. -/
abbrev A3 : Memref sig .tc .smem S1 .f32 := Memref.whole cc0_stg3_0
/-- The result. -/
abbrev A4 : Memref sig .tc .vmem S4096x2048 .f32 := Memref.whole cc0_stg4_0
/-- The columns gathered rightwards. -/
abbrev X0 : Memref sig .tc .vmem S4096x2048 .fp8e4m3 := Memref.whole cc0_scratch0
/-- The rows gathered rightwards. -/
abbrev W0 : Memref sig .tc .vmem S2048x2048 .fp8e5m2 := Memref.whole cc0_scratch1
/-- The columns gathered leftwards. -/
abbrev X1 : Memref sig .tc .vmem S4096x2048 .fp8e4m3 := Memref.whole cc0_scratch2
/-- The rows gathered leftwards. -/
abbrev W1 : Memref sig .tc .vmem S2048x2048 .fp8e5m2 := Memref.whole cc0_scratch3

/-- Copy the columns from `o` of the device's block of `x` to slot 0 of `b`. -/
def fillX (b : Memref sig .tc .vmem S4096x2048 .fp8e4m3) (hb : b.IsWhole) (o : ℕ)
    (ho : ∀ a, (![0, o] : Fin 2 → Nat) a + S4096x128.size a ≤ S4096x256.size a) (k : P F PUnit) : P F PUnit :=
  .op (.load A0 (Rect.unit (s := S4096x256) ![0, o] S4096x128.size ho).toLoadRect (View.loadsAt_vmem h_S4096x128)) fun v =>
  .op (.load b (Rect.unit (s := S4096x2048) ![0, 0] S4096x128.size inb_S4096x2048_S4096x128_0_0).toLoadRect (View.loadsAt_vmem h_S4096x128)) fun _ =>
  .op (.store b (Rect.unit (s := S4096x2048) ![0, 0] S4096x128.size inb_S4096x2048_S4096x128_0_0) (k0_pay3 v) Finset.univ
    (View.stores_vmem h_S4096x128 (hb.storeExact_slice rfl _ packedfp8e4m3_S4096x2048_S4096x128_0_0) (fun _ => rfl)) (.inl rfl)) fun _ => k

/-- Copy the rows from `o` of the device's block of `w` to slot 0 of `b`. -/
def fillW (b : Memref sig .tc .vmem S2048x2048 .fp8e5m2) (hb : b.IsWhole) (o : ℕ)
    (ho : ∀ a, (![o, 0] : Fin 2 → Nat) a + S128x2048.size a ≤ S256x2048.size a) (k : P F PUnit) : P F PUnit :=
  .op (.load A1 (Rect.unit (s := S256x2048) ![o, 0] S128x2048.size ho).toLoadRect (View.loadsAt_vmem h_S128x2048)) fun v =>
  .op (.load b (Rect.unit (s := S2048x2048) ![0, 0] S128x2048.size inb_S2048x2048_S128x2048_0_0).toLoadRect (View.loadsAt_vmem h_S128x2048)) fun _ =>
  .op (.store b (Rect.unit (s := S2048x2048) ![0, 0] S128x2048.size inb_S2048x2048_S128x2048_0_0) (k0_pay7 v) Finset.univ
    (View.stores_vmem h_S128x2048 (hb.storeExact_slice rfl _ packedfp8e5m2_S2048x2048_S128x2048_0_0) (fun _ => rfl)) (.inl rfl)) fun _ => k

/-- The four fills. -/
def fills (k : P F PUnit) : P F PUnit :=
  fillX X0 (Memref.isWhole_whole _) 0 inb_S4096x256_S4096x128_0_0 <|
  fillW W0 (Memref.isWhole_whole _) 0 inb_S256x2048_S128x2048_0_0 <|
  fillX X1 (Memref.isWhole_whole _) 128 inb_S4096x256_S4096x128_0_128 <|
  fillW W1 (Memref.isWhole_whole _) 128 inb_S256x2048_S128x2048_128_0 k

/-- The barrier's semaphore. -/
def barS : Sem sig := (SemArray.scalar (sig.barrier 0 rfl) : Sems sig S_).sem

/-- Read the product of the scales, then meet both neighbours. -/
def scalesAndMeet (c : Dev nD) (k : F .f32 → P F PUnit) : P F PUnit :=
  (smemLoad A2 (Rect.unit (s := S1) ![0] S1.size inb_S1_S1_0) numel1_S1 rfl).bind fun a =>
  (smemLoad A3 (Rect.unit (s := S1) ![0] S1.size inb_S1_S1_0) numel1_S1 rfl).bind fun b =>
  (semSignalWord (lft c) barS 1#32).bind fun _ =>
  (semSignalWord (rgt c) barS 1#32).bind fun _ =>
  (semWaitWord barS 2#32).bind fun _ => k (k0_pay8 a b)

/-! ## The products -/

/-- Panel `p`'s columns of group `g` lie inside the buffer. -/
theorem a_inb (g : Fin 4) (p : Fin 16) : ∀ a, (![256 * p.val, 512 * g.val] : Fin 2 → Nat) a + S256x512.size a ≤ S4096x2048.size a := by
  revert g p; decide
/-- The rows of group `g` lie inside the buffer. -/
theorem b_inb (g : Fin 4) : ∀ a, (![512 * g.val, 0] : Fin 2 → Nat) a + S512x2048.size a ≤ S2048x2048.size a := by
  revert g; decide
/-- Panel `p` lies inside the result. -/
theorem o_inb (p : Fin 16) : ∀ a, (![256 * p.val, 0] : Fin 2 → Nat) a + S256x2048.size a ≤ S4096x2048.size a := by
  revert p; decide

/-- Read panel `p` of the columns of group `g` and the rows of group `g`, of both directions. -/
def reads (g : Fin 4) (p : Fin 16)
    (k : Vec F S256x512 .fp8e4m3 → Vec F S512x2048 .fp8e5m2 → Vec F S256x512 .fp8e4m3 → Vec F S512x2048 .fp8e5m2 → P F PUnit) : P F PUnit :=
  .op (.load X0 (Rect.unit (s := S4096x2048) ![256 * p.val, 512 * g.val] S256x512.size (a_inb g p)).toLoadRect (View.loadsAt_vmem h_S256x512)) fun a =>
  .op (.load W0 (Rect.unit (s := S2048x2048) ![512 * g.val, 0] S512x2048.size (b_inb g)).toLoadRect (View.loadsAt_vmem h_S512x2048)) fun b =>
  .op (.load X1 (Rect.unit (s := S4096x2048) ![256 * p.val, 512 * g.val] S256x512.size (a_inb g p)).toLoadRect (View.loadsAt_vmem h_S256x512)) fun a' =>
  .op (.load W1 (Rect.unit (s := S2048x2048) ![512 * g.val, 0] S512x2048.size (b_inb g)).toLoadRect (View.loadsAt_vmem h_S512x2048)) fun b' =>
  k a b a' b'

/-- Read panel `p` of the result. -/
def readOut (p : Fin 16) (k : Vec F S256x2048 .f32 → P F PUnit) : P F PUnit :=
  .op (.load A4 (Rect.unit (s := S4096x2048) ![256 * p.val, 0] S256x2048.size (o_inb p)).toLoadRect (View.loadsAt_vmem h_S256x2048)) k

/-- Write panel `p` of the result. -/
def storeOut (p : Fin 16) (v : Vec F S256x2048 .f32) (k : P F PUnit) : P F PUnit :=
  .op (.store A4 (Rect.unit (s := S4096x2048) ![256 * p.val, 0] S256x2048.size (o_inb p)) v Finset.univ
    (View.stores_vmem_bits_univ h_S256x2048 rfl) (.inl rfl)) fun _ => k

/-- The first group's products, of one panel. -/
def trip0 (p : Fin 16) (k : P F PUnit) : P F PUnit :=
  reads 0 p fun a b a' b' => readOut p fun _ => storeOut p (k0_pay9 a b a' b') k

/-- A later group's products, of one panel: `f` of them and of what the panel holds. -/
def tripN (g : Fin 4)
    (f : Vec F S256x512 .fp8e4m3 → Vec F S512x2048 .fp8e5m2 → Vec F S256x512 .fp8e4m3 → Vec F S512x2048 .fp8e5m2 →
      Vec F S256x2048 .f32 → Vec F S256x2048 .f32) (p : Fin 16) (k : P F PUnit) : P F PUnit :=
  reads g p fun a b a' b' => readOut p fun v => readOut p fun _ => storeOut p (f a b a' b' v) k

/-- The first `n` panels, in order. -/
def panels (trip : Fin 16 → P F PUnit → P F PUnit) : (n : ℕ) → n ≤ 16 → P F PUnit → P F PUnit
  | 0, _, k => k
  | n + 1, hn, k => panels trip n (by omega) (trip ⟨n, by omega⟩ k)

/-- The four loops over the panels, one for each group. -/
def products (v : F .f32) : P F PUnit :=
  panels trip0 16 le_rfl <| panels (tripN 1 k0_pay13) 16 le_rfl <| panels (tripN 2 k0_pay13) 16 le_rfl <|
  panels (tripN 3 (k0_pay1 v)) 16 le_rfl (.ret ⟨⟩)

/-- The kernel's body. -/
def body : P F PUnit :=
  .op .deviceId fun c => fills <| scalesAndMeet c fun v => gather c <| products v

set_option maxRecDepth 65536 in
/-- The kernel's printed body is this program. -/
theorem body_eq : cc0_body (F := F) A0 (Memref.isWhole_whole _) A1 (Memref.isWhole_whole _) A2 (Memref.isWhole_whole _) A3 (Memref.isWhole_whole _) A4 (Memref.isWhole_whole _) X0 (Memref.isWhole_whole _) W0 (Memref.isWhole_whole _) X1 (Memref.isWhole_whole _) W1 (Memref.isWhole_whole _) cc0_scratch4 cc0_scratch5 = body := by
  rw [cc0_body_eq_skeleton]; unfold cc0_body_skel
  rw [k0_part51_eq_skeleton]; unfold k0_part51_skel
  rw [k0_part49_eq_skeleton, k0_part50_eq_skeleton]; unfold k0_part49_skel k0_part50_skel
  simp only [Scf.Loop.for, Scf.for_eq]
  rfl

end Cert.KernelIdeal.Proof
-- ==== Proof.Ring.lean ====
module

public import proofs.«01_k».proof.Proof.Text
public import proofs.«01_k».proof.Proof.Gen.KernelIdeal.Launch
public import Idealize.ShloMosaic.Lib.Pipeline.Launch
public import Idealize.ShloMosaic.Lib.Pipeline.Kit
public import Idealize.ShloMosaic.Lib.Tactic

/-! The ring's cells, what travels through them and in which order.

Every device has a barrier cell, four send cells and sixty receive cells, one per lane and hop. A send cell is
used fifteen times, round `h` for hop `h`; a receive cell once. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The state of the ring's rounds. -/
abbrev UB : Type := URounds (GSem nD τ sig) Bool
/-- The state of the staging's rounds, and of the ring's. -/
abbrev UU : Type := UR sig nD τ × UB

local notation "𝕄" => MT nD τ sig Unit (Elt F) ℕ UU ℕ

/-- The staging's part of the state. -/
abbrev EP : Emb (UR sig nD τ) (MT nD τ sig Unit (Elt F) ℕ UU ℕ) := embL
/-- The ring's part of the state. -/
abbrev ER : Emb UB (MT nD τ sig Unit (Elt F) ℕ UU ℕ) := embR

/-- No loop of the kernel needs a variant. -/
abbrev 𝒱₀ : Variants := Variants.none

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The neighbours -/

/-- The left neighbour of the right neighbour is the device itself. -/
theorem lft_rgt (c : Dev nD) : lft (rgt c) = c := by revert c; decide
/-- The right neighbour of the left neighbour is the device itself. -/
theorem rgt_lft (c : Dev nD) : rgt (lft c) = c := by revert c; decide
/-- The left neighbour has the number before, round the ring. -/
theorem lft_val (c : Dev nD) : (lft c).val = (c.val + 15) % 16 := by revert c; decide
/-- The right neighbour has the number after, round the ring. -/
theorem rgt_val (c : Dev nD) : (rgt c).val = (c.val + 1) % 16 := by revert c; decide

/-- The device a lane's blocks come from. -/
def prev : Fin 4 → Dev nD → Dev nD
  | 0 => lft | 1 => lft | 2 => rgt | 3 => rgt

/-- The device that sends to the one a lane sends to is the device itself. -/
theorem prev_next (l : Fin 4) (c : Dev nD) : prev l ((lane l).next c) = c := by
  fin_cases l
  · exact lft_rgt c
  · exact lft_rgt c
  · exact rgt_lft c
  · exact rgt_lft c

/-- The device that a lane's sender sends to is the device itself. -/
theorem next_prev (l : Fin 4) (c : Dev nD) : (lane l).next (prev l c) = c := by
  fin_cases l
  · exact rgt_lft c
  · exact rgt_lft c
  · exact lft_rgt c
  · exact lft_rgt c

/-- The neighbour a lane sends to, as a permutation of the devices. -/
def around (l : Fin 4) : Dev nD ≃ Dev nD := ⟨(lane l).next, prev l, prev_next l, next_prev l⟩

set_option backward.proofsInPublic true in
/-- The device whose own block device `c` finds in slot `s` of a lane. -/
def org : Fin 4 → Dev nD → Fin 16 → Dev nD
  | 0, c, s => ⟨(c.val + 16 - s.val) % 16, Nat.mod_lt _ (by decide)⟩
  | 1, c, s => ⟨(c.val + 16 - s.val) % 16, Nat.mod_lt _ (by decide)⟩
  | 2, c, s => ⟨(c.val + s.val) % 16, Nat.mod_lt _ (by decide)⟩
  | 3, c, s => ⟨(c.val + s.val) % 16, Nat.mod_lt _ (by decide)⟩

/-- Rightwards: a device's slot `h` and its right neighbour's slot `h + 1` hold the same device's block. -/
theorem org_rgt (c : Dev nD) (h : Fin 15) :
    (c.val + 16 - h.castSucc.val) % 16 = ((rgt c).val + 16 - h.succ.val) % 16 := by
  have hc : c.val < 16 := c.isLt
  have hh := h.isLt
  rw [rgt_val, Fin.val_succ, Fin.val_castSucc]; omega

/-- Leftwards: a device's slot `h` and its left neighbour's slot `h + 1` hold the same device's block. -/
theorem org_lft (c : Dev nD) (h : Fin 15) :
    (c.val + h.castSucc.val) % 16 = ((lft c).val + h.succ.val) % 16 := by
  have hc : c.val < 16 := c.isLt
  have hh := h.isLt
  rw [lft_val, Fin.val_succ, Fin.val_castSucc]; omega

/-- What a device sends from slot `h` is what its neighbour expects in slot `h + 1`. -/
theorem org_step (l : Fin 4) (c : Dev nD) (h : Fin 15) : org l c h.castSucc = org l ((lane l).next c) h.succ := by
  fin_cases l
  · exact Fin.ext (org_rgt c h)
  · exact Fin.ext (org_rgt c h)
  · exact Fin.ext (org_lft c h)
  · exact Fin.ext (org_lft c h)

/-- Slot 0 holds the device's own block. -/
theorem org_zero (l : Fin 4) (c : Dev nD) : org l c 0 = c := by
  have hc : c.val < 16 := c.isLt
  fin_cases l
  · exact Fin.ext (show (c.val + 16 - 0) % 16 = c.val by omega)
  · exact Fin.ext (show (c.val + 16 - 0) % 16 = c.val by omega)
  · exact Fin.ext (show (c.val + 0) % 16 = c.val by omega)
  · exact Fin.ext (show (c.val + 0) % 16 = c.val by omega)

/-! ## What the slots hold -/

/-- Device `c`'s block of `x`, as staged. -/
def xst (c : Dev nD) : (cc0_stg0_0 : Ref sig .tc).ty.Contents (Elt F) :=
  (win0_0.blk (0 : Fin 1)).view.read (Elt F) ((s₀ m ρ).mem ((c : Thread nD τ).loc main_arg0))
/-- Device `c`'s block of `w`, as staged. -/
def wst (c : Dev nD) : (cc0_stg1_0 : Ref sig .tc).ty.Contents (Elt F) :=
  (win0_1.blk (0 : Fin 1)).view.read (Elt F) ((s₀ m ρ).mem ((c : Thread nD τ).loc main_arg1))

/-- The columns from `o` of device `c`'s block of `x`. -/
def xblk (o : ℕ) (ho : ∀ a, (![0, o] : Fin 2 → Nat) a + S4096x128.size a ≤ S4096x256.size a) (c : Dev nD) : Vec F S4096x128 .fp8e4m3 :=
  k0_pay3 (A0.view.readAt (Elt F) (Rect.unit (s := S4096x256) ![0, o] S4096x128.size ho).toLoadRect (xst m ρ c))
/-- The rows from `o` of device `c`'s block of `w`. -/
def wblk (o : ℕ) (ho : ∀ a, (![o, 0] : Fin 2 → Nat) a + S128x2048.size a ≤ S256x2048.size a) (c : Dev nD) : Vec F S128x2048 .fp8e5m2 :=
  k0_pay7 (A1.view.readAt (Elt F) (Rect.unit (s := S256x2048) ![o, 0] S128x2048.size ho).toLoadRect (wst m ρ c))

/-- The block device `c` puts into a lane. -/
def blk : (l : Fin 4) → Dev nD → (lane l).sh.Idx → Elt F (lane l).e
  | 0 => xblk m ρ 0 inb_S4096x256_S4096x128_0_0
  | 1 => wblk m ρ 0 inb_S256x2048_S128x2048_0_0
  | 2 => xblk m ρ 128 inb_S4096x256_S4096x128_0_128
  | 3 => wblk m ρ 128 inb_S256x2048_S128x2048_128_0

/-- Slot `s` of lane `l` on device `c`, held whole at the contents `f` of its buffer. -/
def slotAt (c : Dev nD) (l : Fin 4) (s : Fin 16) (f : Buf (Elt F) (((lane l).slot s).view.loc (c : Thread nD τ))) : sProp 𝕄 :=
  ((lane l).slot s).view.loc (c : Thread nD τ) ↦[((lane l).slot s).view.set]{fullShare} f

/-- The same at some contents. -/
def slotAny (c : Dev nD) (l : Fin 4) (s : Fin 16) : sProp 𝕄 := iprop(∃ f, slotAt c l s f)

/-- The same, holding the block that belongs there. -/
def slotOwn (c : Dev nD) (l : Fin 4) (s : Fin 16) : sProp 𝕄 :=
  iprop(∃ f, ⌜((lane l).slot s).view.read (Elt F) f = blk m ρ l (org l c s)⌝ ∗ slotAt c l s f)

/-- The slots of the neighbour that lane `l` of device `c` fills. -/
def landing (c : Dev nD) (l : Fin 4) : sProp 𝕄 :=
  bigSep Finset.univ fun h : Fin 15 => slotAny ((lane l).next c) l h.succ

omit [FloatOps F] in
/-- A slot can be handed over through a cell. -/
instance slotAt_storable (c : Dev nD) (l : Fin 4) (s : Fin 16) (f) : BI.Storable (upEmb : UEmb _ 𝕄) (slotAt (F := F) c l s f) := by
  unfold slotAt; infer_instance
omit [FloatOps F] in
/-- A slot at some contents can be handed over through a cell. -/
instance slotAny_storable (c : Dev nD) (l : Fin 4) (s : Fin 16) : BI.Storable (upEmb : UEmb _ 𝕄) (slotAny (F := F) c l s) := by
  unfold slotAny; infer_instance
/-- A filled slot can be handed over through a cell. -/
instance slotOwn_storable (c : Dev nD) (l : Fin 4) (s : Fin 16) : BI.Storable (upEmb : UEmb _ 𝕄) (slotOwn (F := F) m ρ c l s) := by
  unfold slotOwn; infer_instance
omit [FloatOps F] in
/-- A neighbour's slots can be handed over through a cell. -/
instance landing_storable (c : Dev nD) (l : Fin 4) : BI.Storable (upEmb : UEmb _ 𝕄) (landing (F := F) c l) := by
  unfold landing; infer_instance

/-! ## The cells -/

/-- A device's cells: barrier (`none`), a lane's send cell, a lane's receive cell of a hop. -/
abbrev CI := Option (Fin 4 ⊕ (Fin 4 × Fin 15))

/-- The semaphore of a cell. -/
abbrev csem : CI → SemLoc sig
  | none => .reg barS
  | some (.inl l) => .dma (sendSem l)
  | some (.inr (l, h)) => .dma (recvSem l h)

/-- A cell of a device. -/
abbrev kcell (ck : Dev nD × CI) : GSem nD τ sig := ((ck.1 : Thread nD τ), csem ck.2)
/-- A device's barrier cell. -/
abbrev barCell (c : Dev nD) : GSem nD τ sig := kcell (c, none)
/-- The send cell of a lane. -/
abbrev sendCell (c : Dev nD) (l : Fin 4) : GSem nD τ sig := kcell (c, some (.inl l))
/-- The receive cell of a hop of a lane. -/
abbrev recvCell (c : Dev nD) (l : Fin 4) (h : Fin 15) : GSem nD τ sig := kcell (c, some (.inr (l, h)))

set_option backward.proofsInPublic true in
/-- Which of the cells the `q`-th transfer semaphore is. -/
def decodeDma (q : ℕ) : Option CI :=
  if q < 5 then none
  else if q < 9 then some (some (.inl ⟨(q - 5) % 4, Nat.mod_lt _ (by decide)⟩))
  else some (some (.inr (⟨(q - 9) / 15 % 4, Nat.mod_lt _ (by decide)⟩, ⟨(q - 9) % 15, Nat.mod_lt _ (by decide)⟩)))

/-- Which of the cells a semaphore is. -/
def decode : SemLoc sig → Option CI
  | .reg _ => some none
  | .dma q => decodeDma q.val

/-- The cell a cell's semaphore is read back as is the cell itself. -/
theorem decode_csem (k : CI) : decode (csem k) = some k := by
  rcases k with _ | l | ⟨l, h⟩
  · rfl
  · have := l.isLt
    show decodeDma (5 + l.val) = _
    unfold decodeDma
    rw [if_neg (by omega), if_pos (by omega)]
    congr 3; exact Fin.ext (by show (5 + l.val - 5) % 4 = l.val; omega)
  · have := l.isLt; have := h.isLt
    show decodeDma (9 + 15 * l.val + h.val) = _
    unfold decodeDma
    rw [if_neg (by omega), if_neg (by omega)]
    congr 4
    · exact Fin.ext (by show (9 + 15 * l.val + h.val - 9) / 15 % 4 = l.val; omega)
    · exact Fin.ext (by show (9 + 15 * l.val + h.val - 9) % 15 = h.val; omega)

/-- Different cells have different semaphores. -/
theorem csem_injective : Function.Injective csem := fun a b h =>
  Option.some.inj ((decode_csem a).symm.trans ((congrArg decode h).trans (decode_csem b)))

/-- Different cells, of whichever devices, are different. -/
theorem kcell_injective : Function.Injective kcell := fun a b h => by
  have h1 : a.1 = b.1 := by have := congrArg (fun g => g.1.1) h; exact this
  exact Prod.ext h1 (csem_injective (congrArg Prod.snd h))

/-- What a block of the lane counts on a semaphore. -/
def Nl (l : Fin 4) : ℕ := ((lane l).slot 0).view.dmaCredit

/-- Every slot of a lane counts the same. -/
theorem slot_credit (l : Fin 4) (s : Fin 16) : ((lane l).slot s).view.dmaCredit = Nl l := by
  fin_cases l <;> rfl

/-- A block counts something. -/
theorem Nl_pos (l : Fin 4) : 0 < Nl l := by
  unfold Nl; fin_cases l <;> exact View.dmaCredit_pos _ (by decide)

/-! ## The schedule -/

/-- Who signals a cell in a round: both neighbours a barrier, once; one transfer a send cell, in each of fifteen rounds;
    one transfer a receive cell, once. -/
def dutiesAt : Option CI → ℕ → Finset Bool
  | some none, r => if r = 0 then Finset.univ else ∅
  | some (some (.inl _)), r => if r < 15 then {false} else ∅
  | some (some (.inr _)), r => if r = 0 then {false} else ∅
  | none, _ => ∅

/-- How much each signal counts: a block on a send or receive cell, one on the barrier. -/
def amountAt : Option CI → ℕ
  | some (some (.inl l)) => Nl l
  | some (some (.inr (l, _))) => Nl l
  | _ => 1

/-- What a unit hands over: at the barrier a neighbour's slots, on a send cell the slot the block was read from,
    on a receive cell the slot it was written to. -/
def payAt (c : Dev nD) : Option CI → ℕ → Bool → sProp 𝕄
  | some none, _, true => iprop(landing c 0 ∗ landing c 1)
  | some none, _, false => iprop(landing c 2 ∗ landing c 3)
  | some (some (.inl l)), r, _ => if h : r < 15 then slotOwn m ρ c l (Fin.castSucc ⟨r, h⟩) else iprop(emp)
  | some (some (.inr (l, h))), _, _ => slotOwn m ρ c l h.succ
  | none, _, _ => iprop(emp)

/-- What a unit hands over can be kept in a cell. -/
instance payAt_storable (c : Dev nD) (k : Option CI) (r : ℕ) (d : Bool) : BI.Storable (upEmb : UEmb _ 𝕄) (payAt (F := F) m ρ c k r d) := by
  rcases k with _ | _ | l | ⟨l, h⟩
  · unfold payAt; infer_instance
  · cases d <;> (unfold payAt; infer_instance)
  · show BI.Storable upEmb (if h : r < 15 then slotOwn m ρ c l (Fin.castSucc ⟨r, h⟩) else iprop(emp))
    by_cases h : r < 15
    · rw [dif_pos h]; infer_instance
    · rw [dif_neg h]; infer_instance
  · unfold payAt; infer_instance

/-- The ring's schedule: who signals which cell in which round, by how much, and what is handed over. -/
def ringRd : Rounds.Schedule (GSem nD τ sig) Bool 𝕄 where
  duties g r := if g.1.2 = .tc then dutiesAt (decode g.2) r else ∅
  unitless _ := False
  amount g _ _ := amountAt (decode g.2)
  payload g r d := payAt m ρ g.1.1 (decode g.2) r d
  amount_pos g _ _ _ := by
    show 0 < amountAt (decode g.2)
    rcases decode g.2 with _ | _ | l | ⟨l, h⟩
    · exact Nat.one_pos
    · exact Nat.one_pos
    · exact Nl_pos l
    · exact Nl_pos l

/-- What the schedule hands over can be kept in a cell. -/
instance ringRd_storable (g : GSem nD τ sig) (r : ℕ) (d : Bool) : BI.Storable (upEmb : UEmb _ 𝕄) ((ringRd (F := F) m ρ).payload g r d) :=
  payAt_storable m ρ g.1.1 (decode g.2) r d

/-- The schedule's duties on a cell. -/
theorem duties_kcell (c : Dev nD) (k : CI) (r : ℕ) : (ringRd (F := F) m ρ).duties (kcell (c, k)) r = dutiesAt (some k) r := by
  show (if (kcell (c, k)).1.2 = .tc then dutiesAt (decode (csem k)) r else ∅) = _
  rw [if_pos rfl, decode_csem]
/-- The schedule's amounts on a cell. -/
theorem amount_kcell (c : Dev nD) (k : CI) (r : ℕ) (d : Bool) : (ringRd (F := F) m ρ).amount (kcell (c, k)) r d = amountAt (some k) :=
  congrArg amountAt (decode_csem k)
/-- What the schedule hands over on a cell. -/
theorem payload_kcell (c : Dev nD) (k : CI) (r : ℕ) (d : Bool) : (ringRd (F := F) m ρ).payload (kcell (c, k)) r d = payAt m ρ c (some k) r d :=
  congrArg (fun x => payAt m ρ c x r d) (decode_csem k)

/-- Both neighbours signal the barrier. -/
theorem duties_bar (c : Dev nD) : (ringRd (F := F) m ρ).duties (barCell c) 0 = Finset.univ := duties_kcell m ρ c none 0
/-- Each round of a send cell has one duty. -/
theorem duties_send (c : Dev nD) (l : Fin 4) (h : Fin 15) : (ringRd (F := F) m ρ).duties (sendCell c l) h.val = {false} :=
  (duties_kcell m ρ c _ _).trans (if_pos h.isLt)
/-- A receive cell has one duty. -/
theorem duties_recv (c : Dev nD) (l : Fin 4) (h : Fin 15) : (ringRd (F := F) m ρ).duties (recvCell c l h) 0 = {false} := duties_kcell m ρ c _ 0

/-- A send cell counts blocks. -/
theorem amount_send (c : Dev nD) (l : Fin 4) (r : ℕ) (d : Bool) : (ringRd (F := F) m ρ).amount (sendCell c l) r d = Nl l := amount_kcell m ρ c _ r d
/-- A receive cell counts blocks. -/
theorem amount_recv (c : Dev nD) (l : Fin 4) (h : Fin 15) (d : Bool) : (ringRd (F := F) m ρ).amount (recvCell c l h) 0 d = Nl l := amount_kcell m ρ c _ 0 d

/-- Round `h` of a send cell gives back the slot hop `h` was read from. -/
theorem payload_send (c : Dev nD) (l : Fin 4) (h : Fin 15) (d : Bool) :
    (ringRd (F := F) m ρ).payload (sendCell c l) h.val d = slotOwn m ρ c l h.castSucc :=
  (payload_kcell m ρ c _ _ d).trans (dif_pos h.isLt)
/-- A receive cell gives the slot the hop was written to. -/
theorem payload_recv (c : Dev nD) (l : Fin 4) (h : Fin 15) (d : Bool) :
    (ringRd (F := F) m ρ).payload (recvCell c l h) 0 d = slotOwn m ρ c l h.succ := payload_kcell m ρ c _ 0 d
/-- The right neighbour's signal gives its slots of the two lanes that run rightwards. -/
theorem payload_bar_true (c : Dev nD) : (ringRd (F := F) m ρ).payload (barCell c) 0 true = iprop(landing c 0 ∗ landing c 1) := payload_kcell m ρ c _ 0 true
/-- The left neighbour's signal gives its slots of the two lanes that run leftwards. -/
theorem payload_bar_false (c : Dev nD) : (ringRd (F := F) m ρ).payload (barCell c) 0 false = iprop(landing c 2 ∗ landing c 3) := payload_kcell m ρ c _ 0 false

/-- The barrier counts two. -/
theorem expect_bar (c : Dev nD) : (ringRd (F := F) m ρ).expect (barCell c) 0 = 2 := by
  unfold Schedule.expect Schedule.amountOf
  rw [duties_bar, Finset.sum_congr rfl fun d _ => amount_kcell m ρ c none 0 d]; rfl
/-- A round of a send cell counts one block. -/
theorem expect_send (c : Dev nD) (l : Fin 4) (h : Fin 15) : (ringRd (F := F) m ρ).expect (sendCell c l) h.val = Nl l := by
  unfold Schedule.expect Schedule.amountOf; rw [duties_send, Finset.sum_singleton, amount_kcell]; rfl
/-- A receive cell counts one block. -/
theorem expect_recv (c : Dev nD) (l : Fin 4) (h : Fin 15) : (ringRd (F := F) m ρ).expect (recvCell c l h) 0 = Nl l := by
  unfold Schedule.expect Schedule.amountOf; rw [duties_recv, Finset.sum_singleton, amount_kcell]; rfl

/-- What the barrier's wait gives: both neighbours' slots. -/
theorem rest_bar (c : Dev nD) : bigSep ((ringRd (F := F) m ρ).duties (barCell c) 0 \ ∅) (fun d => (ringRd (F := F) m ρ).payload (barCell c) 0 d)
    = iprop((landing c 2 ∗ landing c 3) ∗ (landing c 0 ∗ landing c 1)) := by
  rw [Finset.sdiff_empty, duties_bar, bigSep_univ_eq_bigSepL [false, true] (by decide) (by decide), bigSepL_cons_cons, bigSepL_singleton,
    payload_bar_false, payload_bar_true]
  rfl
/-- What a send cell's wait gives: the slot the hop was read from. -/
theorem rest_send (c : Dev nD) (l : Fin 4) (h : Fin 15) :
    bigSep ((ringRd (F := F) m ρ).duties (sendCell c l) h.val \ ∅) (fun d => (ringRd (F := F) m ρ).payload (sendCell c l) h.val d) = slotOwn m ρ c l h.castSucc := by
  rw [Finset.sdiff_empty, duties_send, bigSep_singleton, payload_send]
/-- What a receive cell's wait gives: the slot the hop was written to. -/
theorem rest_recv (c : Dev nD) (l : Fin 4) (h : Fin 15) :
    bigSep ((ringRd (F := F) m ρ).duties (recvCell c l h) 0 \ ∅) (fun d => (ringRd (F := F) m ρ).payload (recvCell c l h) 0 d) = slotOwn m ρ c l h.succ := by
  rw [Finset.sdiff_empty, duties_recv, bigSep_singleton, payload_recv]

/-! ## What a device still owes, and the levels -/

/-- The hops from `n` on. -/
def ge (n : ℕ) : Finset (Fin 15) := Finset.univ.filter fun h => n ≤ h.val
/-- The hops before `n`. -/
def lt (n : ℕ) : Finset (Fin 15) := Finset.univ.filter fun h => h.val < n
/-- The slots before `n`. -/
def ltS (n : ℕ) : Finset (Fin 16) := Finset.univ.filter fun h => h.val < n

/-- A hop is among those from `n` on when it is at least `n`. -/
theorem mem_ge {n : ℕ} {h : Fin 15} : h ∈ ge n ↔ n ≤ h.val := by simp [ge]
/-- A hop is among those before `n` when it is less than `n`. -/
theorem mem_lt {n : ℕ} {h : Fin 15} : h ∈ lt n ↔ h.val < n := by simp [lt]
/-- A slot is among those before `n` when it is less than `n`. -/
theorem mem_ltS {n : ℕ} {h : Fin 16} : h ∈ ltS n ↔ h.val < n := by simp [ltS]

/-- The hops from `h` on are `h` and those from `h + 1` on. -/
theorem ge_step (h : Fin 15) : ge h.val = insert h (ge (h.val + 1)) := by
  ext x; rw [Finset.mem_insert, mem_ge, mem_ge, Fin.ext_iff]; omega
/-- Hop `h` is not among those from `h + 1` on. -/
theorem ge_not (h : Fin 15) : h ∉ ge (h.val + 1) := by rw [mem_ge]; omega
/-- The hops before `h + 1` are `h` and those before `h`. -/
theorem lt_step (h : Fin 15) : lt (h.val + 1) = insert h (lt h.val) := by
  ext x; rw [Finset.mem_insert, mem_lt, mem_lt, Fin.ext_iff]; omega
/-- Hop `h` is not among those before `h`. -/
theorem lt_not (h : Fin 15) : h ∉ lt h.val := by rw [mem_lt]; omega
/-- The slots before `h + 1` are `h` and those before `h`. -/
theorem ltS_step (h : Fin 16) : ltS (h.val + 1) = insert h (ltS h.val) := by
  ext x; rw [Finset.mem_insert, mem_ltS, mem_ltS, Fin.ext_iff]; omega
/-- Slot `h` is not among those before `h`. -/
theorem ltS_not (h : Fin 16) : h ∉ ltS h.val := by rw [mem_ltS]; omega
/-- Every hop is from 0 on. -/
theorem ge_zero : ge 0 = Finset.univ := by decide
/-- No hop is from 15 on. -/
theorem ge_last : ge 15 = ∅ := by decide
/-- No hop is before 0. -/
theorem lt_zero : lt 0 = ∅ := by decide
/-- Every hop is before 15. -/
theorem lt_last : lt 15 = Finset.univ := by decide
/-- No slot is before 0. -/
theorem ltS_zero : ltS 0 = ∅ := by decide
/-- Slot 0 alone is before 1. -/
theorem ltS_one : ltS 1 = {0} := by decide
/-- Every slot is before 16. -/
theorem ltS_last : ltS 16 = Finset.univ := by decide

/-- Lane `l`'s blocks of the hops in `S`, owed to the neighbour. -/
def owedLane (c : Dev nD) (l : Fin 4) (S : Finset (Fin 15)) : CellTallies nD τ sig Unit :=
  ∑ h ∈ S, tallyAt (recvCell ((lane l).next c) l h) () (Nl l)

/-- What device `c` owes once it has sent hops before `n l` of each lane `l`. -/
def owed (c : Dev nD) (n : Fin 4 → ℕ) : CellTallies nD τ sig Unit := ∑ l : Fin 4, owedLane c l (ge (n l))

/-- Sending hop `h` takes its block off what a lane owes. -/
theorem owedLane_step (c : Dev nD) (l : Fin 4) (h : Fin 15) :
    owedLane c l (ge h.val) = owedLane c l (ge (h.val + 1)) + tallyAt (recvCell ((lane l).next c) l h) () (Nl l) := by
  unfold owedLane; rw [ge_step, Finset.sum_insert (ge_not h), add_comm]

/-- Sending hop `h` of lane `l` takes its block off what the device owes. -/
theorem owed_step (c : Dev nD) (l : Fin 4) (h : Fin 15) (n n' : Fin 4 → ℕ) (hn : n l = h.val) (hn' : n' = Function.update n l (h.val + 1)) :
    owed c n = owed c n' + tallyAt (recvCell ((lane l).next c) l h) () (Nl l) := by
  subst hn'
  unfold owed
  have he : ∑ x ∈ Finset.univ.erase l, owedLane c x (ge (Function.update n l (h.val + 1) x)) = ∑ x ∈ Finset.univ.erase l, owedLane c x (ge (n x)) :=
    Finset.sum_congr rfl fun x hx => by rw [Function.update_of_ne (Finset.ne_of_mem_erase hx)]
  rw [← Finset.add_sum_erase _ (fun x => owedLane c x (ge (n x))) (Finset.mem_univ l),
    ← Finset.add_sum_erase _ (fun x => owedLane c x (ge (Function.update n l (h.val + 1) x))) (Finset.mem_univ l), he]
  rw [hn, owedLane_step, Function.update_self, add_right_comm]

/-- Once every hop is sent nothing is owed. -/
theorem owed_all (c : Dev nD) : owed c (fun _ => 15) = 0 := by
  unfold owed owedLane; simp [ge_last]

/-- What a device owes once it has signalled its left neighbour: its blocks, and one unit to the right neighbour's barrier. -/
def O₁ (c : Dev nD) : CellTallies nD τ sig Unit := owed c (fun _ => 0) + tallyAt (barCell (rgt c)) () 1
/-- What a device owes at launch: its blocks, and one unit to each neighbour's barrier. -/
def O₀ (c : Dev nD) : CellTallies nD τ sig Unit := O₁ c + tallyAt (barCell (lft c)) () 1

/-- Debts are counted on the tensor cores' semaphores only. -/
def L (g : GSem nD τ sig) : Finset Unit := if g.1.2 = .tc then {()} else ∅
/-- Barrier cells at 1, hop `h`'s receive cells at `2 + h`, everything else at 0. -/
def lvAt : Option CI → ℕ
  | some none => 1
  | some (some (.inr (_, h))) => 2 + h.val
  | _ => 0
/-- The level of a semaphore. -/
def lv (g : GSem nD τ sig) (_ : Unit) : ℕ := lvAt (decode g.2)

/-- Nothing is counted off the tensor cores. -/
theorem L_of_ne (g : GSem nD τ sig) (h : g.1.2 ≠ .tc) : L g = ∅ := if_neg h
/-- Every semaphore of a tensor core is counted. -/
theorem L_tc (c : Dev nD) (sm : SemLoc sig) : L ((c : Thread nD τ), sm) = {()} := if_pos rfl

/-- A barrier's level is 1. -/
theorem lv_bar (c : Dev nD) : lv (barCell c) () = 1 := rfl
/-- The level of hop `h`'s receive cells is `2 + h`. -/
theorem lv_recv (c : Dev nD) (l : Fin 4) (h : Fin 15) : lv (recvCell c l h) () = 2 + h.val :=
  congrArg lvAt (decode_csem (some (.inr (l, h))))
/-- A send cell's level is 0. -/
theorem lv_send (c : Dev nD) (l : Fin 4) : lv (sendCell c l) () = 0 :=
  congrArg lvAt (decode_csem (some (.inl l)))

/-- What is owed to a cell alone is owed to no other. -/
theorem tallyAt_pos {g g' : GSem nD τ sig} {u : Unit} {k : ℕ} (h : 0 < (tallyAt g () k : CellTallies nD τ sig Unit) g' u) : g' = g := by
  rw [tallyAt_apply] at h
  by_contra hn
  rw [if_neg (fun h' => hn h'.1)] at h
  exact Nat.lt_irrefl 0 h

/-- What a device owes are blocks of the hops it has not sent, to the receive cells of its neighbours. -/
theorem owed_pos {c : Dev nD} {n : Fin 4 → ℕ} {g : GSem nD τ sig} {u : Unit} (h : 0 < owed c n g u) :
    ∃ l, ∃ h : Fin 15, n l ≤ h.val ∧ g = recvCell ((lane l).next c) l h := by
  unfold owed owedLane at h
  rw [Finset.sum_apply, Finsupp.finset_sum_apply] at h
  obtain ⟨l, -, hl⟩ := Finset.exists_ne_zero_of_sum_ne_zero (Nat.pos_iff_ne_zero.mp h)
  rw [Finset.sum_apply, Finsupp.finset_sum_apply] at hl
  obtain ⟨k, hk, hz⟩ := Finset.exists_ne_zero_of_sum_ne_zero hl
  exact ⟨l, k, mem_ge.mp hk, tallyAt_pos (Nat.pos_iff_ne_zero.mpr hz)⟩

/-- A device may wait on a cell of a lower level than every receive cell it still owes to. -/
theorem mayWait_owed (c : Dev nD) (sm : SemLoc sig) (n : Fin 4 → ℕ) (hl : ∀ l, lv ((c : Thread nD τ), sm) () < 2 + n l) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by obtain ⟨l, h, -, rfl⟩ := owed_pos hg; exact Finset.mem_singleton_self _)
    (fun p hp => by rw [Finset.mem_singleton.mp hp])
    (fun g u hg => by obtain ⟨l, h, hn, rfl⟩ := owed_pos hg; rw [lv_recv]; have := hl l; omega)

/-- At launch only receive cells and barriers are owed anything. -/
theorem O₀_pos {c : Dev nD} {g : GSem nD τ sig} {u : Unit} (h : 0 < O₀ c g u) :
    (∃ l h, g = recvCell ((lane l).next c) l h) ∨ ∃ d, g = barCell d := by
  unfold O₀ O₁ at h
  rw [Pi.add_apply, Finsupp.add_apply, Pi.add_apply, Finsupp.add_apply] at h
  by_contra hn
  rw [not_or] at hn
  have h1 : owed c (fun _ => 0) g u = 0 := by
    by_contra h0; obtain ⟨l, h, -, e⟩ := owed_pos (Nat.pos_iff_ne_zero.mpr h0); exact hn.1 ⟨l, h, e⟩
  have h2 : ∀ d, (tallyAt (barCell d) () 1 : CellTallies nD τ sig Unit) g u = 0 := fun d => by
    by_contra h0; exact hn.2 ⟨d, tallyAt_pos (Nat.pos_iff_ne_zero.mpr h0)⟩
  rw [h1, h2, h2] at h
  exact Nat.lt_irrefl 0 h

/-- A staging semaphore may be waited on before the kernel and after it. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨l, h, rfl⟩ | ⟨d, rfl⟩ <;> exact Finset.mem_singleton_self _)
      (fun p hp => by
        rw [Finset.mem_singleton.mp hp]
        have hd : decode (.dma q) = none := by unfold decode; exact if_pos hq
        unfold lv; dsimp only; rw [hd]; rfl)
      (fun g u hg => by
        rcases O₀_pos hg with ⟨l, h, rfl⟩ | ⟨d, rfl⟩
        · rw [lv_recv]; omega
        · rw [lv_bar]; decide)
  · rw [MayWait_zero]; iintro -; iempintro

end Cert.KernelIdeal.Proof
-- ==== Proof.Hops.lean ====
module

public import proofs.«01_k».proof.Proof.Ring

/-! One lane's send and its two waits, and from them the whole gathering round the ring. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What every device knows of every cell -/

/-- Every cell keeps the schedule, and has begun it. -/
def records (K : Dev nD × CI → ℕ) : sProp 𝕄 :=
  iprop((bigSep Finset.univ fun ck : Dev nD × CI => cellInv ER (ringRd m ρ) (K ck) (kcell ck)) ∗ bigSep Finset.univ fun ck : Dev nD × CI => reached ER (kcell ck) 0)

/-- These facts can be used again and again. -/
instance records_persistent (K : Dev nD × CI → ℕ) : BI.Persistent (records (F := F) m ρ K) := by unfold records; infer_instance

/-- One cell keeps the schedule. -/
theorem inv_at (K : Dev nD × CI → ℕ) (ck : Dev nD × CI) : records m ρ K ⊢ cellInv ER (ringRd m ρ) (K ck) (kcell ck) := by
  unfold records
  iintro ⟨H, -⟩
  iapply (show (bigSep Finset.univ fun ck : Dev nD × CI => (cellInv ER (ringRd m ρ) (K ck) (kcell ck) : sProp 𝕄)) ⊢ cellInv ER (ringRd m ρ) (K ck) (kcell ck)
    from bigSep_elim (Finset.mem_univ ck)) $$ H

/-- One cell has begun the schedule. -/
theorem reached_at (K : Dev nD × CI → ℕ) (ck : Dev nD × CI) : records m ρ K ⊢ reached ER (kcell ck) 0 := by
  unfold records
  iintro ⟨-, H⟩
  iapply (show (bigSep Finset.univ fun ck : Dev nD × CI => (reached ER (kcell ck) 0 : sProp 𝕄)) ⊢ reached ER (kcell ck) 0
    from bigSep_elim (Finset.mem_univ ck)) $$ H

/-! ## A lane of a device -/

/-- What lane `l` of device `c` needs for the sends of the hops in `S`. -/
def toSend (c : Dev nD) (l : Fin 4) (S : Finset (Fin 15)) : sProp 𝕄 :=
  bigSep S fun h => iprop(dutyTok ER (sendCell c l) h.val false ∗ dutyTok ER (recvCell ((lane l).next c) l h) 0 false ∗ slotAny ((lane l).next c) l h.succ)
/-- What it needs to receive the hops in `S`. -/
def toRecv (c : Dev nD) (l : Fin 4) (S : Finset (Fin 15)) : sProp 𝕄 :=
  bigSep S fun h => iprop(cred (tallyAt (recvCell c l h) () (Nl l)) ∗ atPos ER (recvCell c l h) 0 ∅ 0)
/-- The receive cells of the hops in `S`, used. -/
def received (c : Dev nD) (l : Fin 4) (S : Finset (Fin 15)) : sProp 𝕄 :=
  bigSep S fun h => atPos ER (recvCell c l h) 1 ∅ 0
/-- The slots in `T`, each holding its block. -/
def slots (c : Dev nD) (l : Fin 4) (T : Finset (Fin 16)) : sProp 𝕄 := bigSep T fun s => slotOwn m ρ c l s

/-- A lane before its send of hop `n`: slots up to `n` are its own. -/
def idle (c : Dev nD) (l : Fin 4) (n : ℕ) : sProp 𝕄 :=
  iprop(atPos ER (sendCell c l) n ∅ 0 ∗ reached ER (sendCell c l) n ∗ slots m ρ c l (ltS (n + 1)) ∗ toSend c l (ge n) ∗ toRecv c l (ge n) ∗ received c l (lt n))
/-- A lane whose block of hop `n` is on its way. -/
def fly (c : Dev nD) (l : Fin 4) (n : ℕ) : sProp 𝕄 :=
  iprop(atPos ER (sendCell c l) n ∅ 0 ∗ cred (tallyAt (sendCell c l) () (Nl l)) ∗ slots m ρ c l (ltS n) ∗ toSend c l (ge (n + 1)) ∗ toRecv c l (ge n) ∗ received c l (lt n))
/-- The same once the neighbour's block of hop `n` is in. -/
def got (c : Dev nD) (l : Fin 4) (n : ℕ) : sProp 𝕄 :=
  iprop(atPos ER (sendCell c l) n ∅ 0 ∗ cred (tallyAt (sendCell c l) () (Nl l)) ∗ slots m ρ c l (ltS n)
    ∗ (∃ s : Fin 16, ⌜s.val = n + 1⌝ ∗ slotOwn m ρ c l s) ∗ toSend c l (ge (n + 1)) ∗ toRecv c l (ge (n + 1)) ∗ received c l (lt (n + 1)))

/-- What a device owes, at whatever waits it has made. -/
def OW (c : Dev nD) (n : Fin 4 → ℕ) : sProp 𝕄 := iprop(∃ W, owes (c : Thread nD τ) (owed c n) W)

variable (K : Dev nD × CI → ℕ)

/-- Sending hop `h` of a lane. -/
theorem wp_sendOp (c : Dev nD) (l : Fin 4) (h : Fin 15) (n n' : Fin 4 → ℕ) (hn : n l = h.val) (hn' : n' = Function.update n l (h.val + 1))
    {Q : PUnit → sProp 𝕄} {k : PUnit → P F PUnit} :
    iprop(records m ρ K ∗ idle m ρ c l h.val ∗ OW c n)
      ⊢ iprop(((fly m ρ c l h.val ∗ OW c n') -∗ wp frame (wpE (defs₀ (F := F)) 𝒱₀ (c : Thread nD τ) none) Set.univ (k ⟨⟩) Q)
          -∗ wp frame (wpE (defs₀ (F := F)) 𝒱₀ (c : Thread nD τ) none) Set.univ (.op (sendOp l h c) k) Q) := by
  unfold idle OW sendOp
  iintro ⟨#HR, ⟨Hat, #Hr, Hsl, Hts, Htr, Hrd⟩, ⟨%W, HO⟩⟩ Hk
  ihave Hs := (Entails.of_eq (show slots m ρ c l (ltS (h.val + 1)) = iprop(slotOwn m ρ c l h.castSucc ∗ slots m ρ c l (ltS h.val)) by
    unfold slots; rw [show h.val = h.castSucc.val from rfl, ltS_step h.castSucc, bigSep_insert (ltS_not h.castSucc)]; rfl)) $$ Hsl
  unfold slotOwn
  icases Hs with ⟨⟨%fs, %hfs, Hsrc⟩, Hsl⟩
  ihave Ht := (Entails.of_eq (show toSend (F := F) c l (ge h.val) = iprop((dutyTok ER (sendCell c l) h.val false ∗ dutyTok ER (recvCell ((lane l).next c) l h) 0 false ∗ slotAny ((lane l).next c) l h.succ) ∗ toSend c l (ge (h.val + 1))) by
    unfold toSend; rw [ge_step, bigSep_insert (ge_not h)]; rfl)) $$ Hts
  unfold slotAny
  icases Ht with ⟨⟨Ht1, Ht2, ⟨%fd, Hdst⟩⟩, Hts⟩
  unfold slotAt
  iapply (Rounds.wp_send_pointsTo 𝒱₀ ER (ringRd m ρ) (c : Thread nD τ) none (sS := .dma (sendSem l)) (sem := .dma (recvSem l h)) (κ₁ := K (c, some (.inl l))) (κ₂ := K ((lane l).next c, some (.inr (l, h))))
    (r₁ := h.val) (r₂ := 0) (d₁ := false) (d₂ := false) (fs := fs) (fd := fd)
    (by rw [show ((c : Thread nD τ), SemLoc.dma (sendSem l)) = sendCell c l from rfl, duties_send]; exact Finset.mem_singleton_self _)
    (by rw [show ((Dev.tc ((lane l).next c) : Thread nD τ), SemLoc.dma (recvSem l h)) = recvCell ((lane l).next c) l h from rfl, duties_recv]; exact Finset.mem_singleton_self _)
    () () (Nl l) (slot_credit l h.succ) (amount_send m ρ c l h.val false) (amount_recv m ρ _ l h false) (owed c n') (owed_step c l h n n' hn hn') (W := W)
    (by
      rw [show ((c : Thread nD τ), SemLoc.dma (sendSem l)) = sendCell c l from rfl, payload_send]
      unfold slotOwn slotAt
      iintro H; iexists fs; isplitr; · ipureintro; exact hfs
      iexact H)
    (by
      rw [show ((Dev.tc ((lane l).next c) : Thread nD τ), SemLoc.dma (recvSem l h)) = recvCell ((lane l).next c) l h from rfl, payload_recv]
      unfold slotOwn slotAt
      iintro H; iexists _; isplitr
      swap; · iexact H
      ipureintro; rw [View.read_write_univ, hfs, org_step])) $$ [Hsrc Hdst HO Ht1 Ht2]
  · isplitr; · iapply (inv_at m ρ K (c, some (.inl l))) $$ HR
    isplitr; · iapply (inv_at m ρ K ((lane l).next c, some (.inr (l, h)))) $$ HR
    isplitl [Hsrc]; · iexact Hsrc
    isplitl [Hdst]; · iexact Hdst
    isplitl [HO]; · iexact HO
    isplitl [Ht1]; · iexact Ht1
    isplitr; · iexact Hr
    isplitl [Ht2]; · iexact Ht2
    iapply (reached_at m ρ K ((lane l).next c, some (.inr (l, h)))) $$ HR
  iintro ⟨HcS, HO⟩
  iapply Hk
  unfold fly
  isplitr [HO]
  · isplitl [Hat]; · iexact Hat
    isplitl [HcS]; · iexact HcS
    isplitl [Hsl]; · iexact Hsl
    isplitl [Hts]; · iexact Hts
    isplitl [Htr]; · iexact Htr
    iexact Hrd
  iexists W; iexact HO

/-- Waiting for the neighbour's block of hop `h`. -/
theorem wp_waitROp (c : Dev nD) (l : Fin 4) (h : Fin 15) (n : Fin 4 → ℕ) (hn : ∀ l', h.val < n l')
    {Q : PUnit → sProp 𝕄} {k : PUnit → P F PUnit} :
    iprop(records m ρ K ∗ levAts L lv ∗ fly m ρ c l h.val ∗ OW c n)
      ⊢ iprop(((got m ρ c l h.val ∗ OW c n) -∗ wp frame (wpE (defs₀ (F := F)) 𝒱₀ (c : Thread nD τ) none) Set.univ (k ⟨⟩) Q)
          -∗ wp frame (wpE (defs₀ (F := F)) 𝒱₀ (c : Thread nD τ) none) Set.univ (.op (waitROp l h) k) Q) := by
  unfold fly OW waitROp
  iintro ⟨#HR, #Hlev, ⟨Hat, Hc, Hsl, Hts, Htr, Hrd⟩, ⟨%W, HO⟩⟩ Hk
  ihave Ht := (Entails.of_eq (show toRecv (F := F) c l (ge h.val) = iprop((cred (tallyAt (recvCell c l h) () (Nl l)) ∗ atPos ER (recvCell c l h) 0 ∅ 0) ∗ toRecv c l (ge (h.val + 1))) by
    unfold toRecv; rw [ge_step, bigSep_insert (ge_not h)]; rfl)) $$ Htr
  icases Ht with ⟨⟨HcR, HatR⟩, Htr⟩
  iapply (Rounds.wp_wait_rest_token 𝒱₀ ER (ringRd m ρ) (c : Thread nD τ) none (κ := K (c, some (.inr (l, h))))
      (wpE_waitDma2_eq 𝒱₀ (c : Thread nD τ) none Set.univ) (Set.mem_univ _) () (O := owed c n) (W := W) (R := 0) (m := 0) (T := ∅)
      (by rw [Nat.zero_add, slot_credit]; exact (expect_recv m ρ c l h).symm)) $$ [HcR HO HatR]
  · isplitr; · iapply (inv_at m ρ K (c, some (.inr (l, h)))) $$ HR
    isplitl [HcR]; · rw [slot_credit]; iexact HcR
    isplitl [HO]; · iexact HO
    isplitr
    · iapply (mayWait_owed c (.dma (recvSem l h)) n (fun l' => by
        rw [show ((c : Thread nD τ), SemLoc.dma (recvSem l h)) = recvCell c l h from rfl, lv_recv]; have := hn l'; omega))
      iexact Hlev
    iexact HatR
  iintro ⟨HO, HatR, -, Hpay⟩
  ihave Hp := (Entails.of_eq (rest_recv m ρ c l h)) $$ Hpay
  iapply Hk
  unfold got
  isplitr [HO]
  · isplitl [Hat]; · iexact Hat
    isplitl [Hc]; · iexact Hc
    isplitl [Hsl]; · iexact Hsl
    isplitl [Hp]
    · iexists h.succ; isplitr; · ipureintro; rfl
      iexact Hp
    isplitl [Hts]; · iexact Hts
    isplitl [Htr]; · iexact Htr
    iapply (Entails.of_eq (show iprop(atPos ER (recvCell c l h) 1 ∅ 0 ∗ received c l (lt h.val)) = received (F := F) c l (lt (h.val + 1)) by
      unfold received; rw [lt_step, bigSep_insert (lt_not h)]; rfl))
    isplitl [HatR]; · iexact HatR
    iexact Hrd
  iexists _; iexact HO

/-- Waiting for the own block of hop `h` to have left. -/
theorem wp_waitSOp (c : Dev nD) (l : Fin 4) (h : Fin 15) (n : Fin 4 → ℕ)
    {Q : PUnit → sProp 𝕄} {k : PUnit → P F PUnit} :
    iprop(records m ρ K ∗ levAts L lv ∗ got m ρ c l h.val ∗ OW c n)
      ⊢ iprop(((idle m ρ c l (h.val + 1) ∗ OW c n) -∗ wp frame (wpE (defs₀ (F := F)) 𝒱₀ (c : Thread nD τ) none) Set.univ (k ⟨⟩) Q)
          -∗ wp frame (wpE (defs₀ (F := F)) 𝒱₀ (c : Thread nD τ) none) Set.univ (.op (waitSOp l h) k) Q) := by
  unfold got OW waitSOp
  iintro ⟨#HR, #Hlev, ⟨Hat, Hc, Hsl, ⟨%s, %hs, Hnew⟩, Hts, Htr, Hrd⟩, ⟨%W, HO⟩⟩ Hk
  iapply (Rounds.wp_wait_rest_token 𝒱₀ ER (ringRd m ρ) (c : Thread nD τ) none (κ := K (c, some (.inl l)))
      (wpE_waitDma2_eq 𝒱₀ (c : Thread nD τ) none Set.univ) (Set.mem_univ _) () (O := owed c n) (W := W) (R := h.val) (m := 0) (T := ∅)
      (by rw [Nat.zero_add, slot_credit]; exact (expect_send m ρ c l h).symm)) $$ [Hc HO Hat]
  · isplitr; · iapply (inv_at m ρ K (c, some (.inl l))) $$ HR
    isplitl [Hc]; · rw [slot_credit]; iexact Hc
    isplitl [HO]; · iexact HO
    isplitr
    · iapply (mayWait_owed c (.dma (sendSem l)) n (fun l' => by
        rw [show ((c : Thread nD τ), SemLoc.dma (sendSem l)) = sendCell c l from rfl, lv_send]; omega))
      iexact Hlev
    iexact Hat
  iintro ⟨HO, Hat, #Hr, Hpay⟩
  ihave Hp := (Entails.of_eq (rest_send m ρ c l h)) $$ Hpay
  have hs' : s = h.succ := Fin.ext hs
  subst hs'
  iapply Hk
  unfold idle
  isplitr [HO]
  · isplitl [Hat]; · iexact Hat
    isplitr; · iexact Hr
    isplitl [Hsl Hnew Hp]
    · iapply (Entails.of_eq (show iprop(slotOwn m ρ c l h.succ ∗ slotOwn m ρ c l h.castSucc ∗ slots m ρ c l (ltS h.val)) = slots m ρ c l (ltS (h.val + 1 + 1)) by
        unfold slots
        rw [show h.val + 1 = h.succ.val from rfl, ltS_step h.succ, bigSep_insert (ltS_not h.succ), show h.succ.val = h.castSucc.val + 1 from rfl,
          ltS_step h.castSucc, bigSep_insert (ltS_not h.castSucc)]; rfl))
      isplitl [Hnew]; · iexact Hnew
      isplitl [Hp]; · iexact Hp
      iexact Hsl
    isplitl [Hts]; · iexact Hts
    isplitl [Htr]; · iexact Htr
    iexact Hrd
  iexists _; iexact HO

/-! ## All four lanes -/

/-- The four lanes in one state. -/
def four (st : Fin 4 → sProp 𝕄) : sProp 𝕄 := iprop(st 0 ∗ st 1 ∗ st 2 ∗ st 3)

/-- The waits for the four blocks of hop `h`. -/
theorem wp_recvs (c : Dev nD) (h : Fin 15) {Q : PUnit → sProp 𝕄} {k : P F PUnit} :
    iprop(records m ρ K ∗ levAts L lv ∗ four (fun l => fly m ρ c l h.val) ∗ OW c (fun _ => h.val + 1))
      ⊢ iprop(((four (fun l => got m ρ c l h.val) ∗ OW c (fun _ => h.val + 1)) -∗ wp frame (wpE (defs₀ (F := F)) 𝒱₀ (c : Thread nD τ) none) Set.univ k Q)
          -∗ wp frame (wpE (defs₀ (F := F)) 𝒱₀ (c : Thread nD τ) none) Set.univ (recvs h k) Q) := by
  unfold four recvs
  have hn : ∀ l' : Fin 4, h.val < (fun _ : Fin 4 => h.val + 1) l' := fun _ => Nat.lt_succ_self _
  iintro ⟨#HR, #Hlev, ⟨H0, H1, H2, H3⟩, HO⟩ Hk
  iapply (wp_waitROp m ρ K c 0 h _ hn) $$ [H0 HO]
  · isplitr; · iexact HR
    isplitr; · iexact Hlev
    isplitl [H0] <;> iassumption
  iintro ⟨H0, HO⟩
  iapply (wp_waitROp m ρ K c 1 h _ hn) $$ [H1 HO]
  · isplitr; · iexact HR
    isplitr; · iexact Hlev
    isplitl [H1] <;> iassumption
  iintro ⟨H1, HO⟩
  iapply (wp_waitROp m ρ K c 2 h _ hn) $$ [H2 HO]
  · isplitr; · iexact HR
    isplitr; · iexact Hlev
    isplitl [H2] <;> iassumption
  iintro ⟨H2, HO⟩
  iapply (wp_waitROp m ρ K c 3 h _ hn) $$ [H3 HO]
  · isplitr; · iexact HR
    isplitr; · iexact Hlev
    isplitl [H3] <;> iassumption
  iintro ⟨H3, HO⟩
  iapply Hk
  isplitr [HO]
  · isplitl [H0]; · iexact H0
    isplitl [H1]; · iexact H1
    isplitl [H2] <;> iassumption
  iexact HO

/-- A lane's turn: its last block has left, the next one is sent. -/
theorem wp_resend (c : Dev nD) (l : Fin 4) (h h' : Fin 15) (hh : h'.val = h.val + 1) (n n' : Fin 4 → ℕ) (hn : n l = h'.val)
    (hn' : n' = Function.update n l (h'.val + 1)) {Q : PUnit → sProp 𝕄} {k : P F PUnit} :
    iprop(records m ρ K ∗ levAts L lv ∗ got m ρ c l h.val ∗ OW c n)
      ⊢ iprop(((fly m ρ c l h'.val ∗ OW c n') -∗ wp frame (wpE (defs₀ (F := F)) 𝒱₀ (c : Thread nD τ) none) Set.univ k Q)
          -∗ wp frame (wpE (defs₀ (F := F)) 𝒱₀ (c : Thread nD τ) none) Set.univ (resend l h h' c k) Q) := by
  unfold resend
  iintro ⟨#HR, #Hlev, Hg, HO⟩ Hk
  iapply (wp_waitSOp m ρ K c l h n) $$ [Hg HO]
  · isplitr; · iexact HR
    isplitr; · iexact Hlev
    isplitl [Hg] <;> iassumption
  iintro ⟨Hi, HO⟩
  rw [← hh]
  iapply (wp_sendOp m ρ K c l h' n n' hn hn') $$ [Hi HO]
  · isplitr; · iexact HR
    isplitl [Hi] <;> iassumption
  iexact Hk

/-- After the four lanes' sends of a hop every count has gone up by one. -/
theorem counts_step (a : ℕ) :
    (fun _ : Fin 4 => a + 1) = Function.update (Function.update (Function.update (Function.update (fun _ => a) 0 (a + 1)) 1 (a + 1)) 2 (a + 1)) 3 (a + 1) := by
  funext l; fin_cases l <;> rfl

/-- One hop after another. -/
theorem wp_hop (c : Dev nD) (h h' : Fin 15) (hh : h'.val = h.val + 1) {Q : PUnit → sProp 𝕄} {k : P F PUnit} :
    iprop(records m ρ K ∗ levAts L lv ∗ four (fun l => got m ρ c l h.val) ∗ OW c (fun _ => h.val + 1))
      ⊢ iprop(((four (fun l => got m ρ c l h'.val) ∗ OW c (fun _ => h'.val + 1)) -∗ wp frame (wpE (defs₀ (F := F)) 𝒱₀ (c : Thread nD τ) none) Set.univ k Q)
          -∗ wp frame (wpE (defs₀ (F := F)) 𝒱₀ (c : Thread nD τ) none) Set.univ (hop h h' c k) Q) := by
  unfold hop
  iintro ⟨#HR, #Hlev, H4, HO⟩ Hk
  ihave H4 := (Entails.of_eq (show four (fun l => got m ρ c l h.val) = iprop(got m ρ c 0 h.val ∗ got m ρ c 1 h.val ∗ got m ρ c 2 h.val ∗ got m ρ c 3 h.val) from rfl)) $$ H4
  icases H4 with ⟨H0, H1, H2, H3⟩
  rw [← hh]
  iapply (wp_resend m ρ K c 0 h h' hh (fun _ => h'.val) _ rfl rfl) $$ [H0 HO]
  · isplitr; · iexact HR
    isplitr; · iexact Hlev
    isplitl [H0] <;> iassumption
  iintro ⟨H0, HO⟩
  iapply (wp_resend m ρ K c 1 h h' hh (Function.update (fun _ => h'.val) 0 (h'.val + 1)) _ rfl rfl) $$ [H1 HO]
  · isplitr; · iexact HR
    isplitr; · iexact Hlev
    isplitl [H1] <;> iassumption
  iintro ⟨H1, HO⟩
  iapply (wp_resend m ρ K c 2 h h' hh (Function.update (Function.update (fun _ => h'.val) 0 (h'.val + 1)) 1 (h'.val + 1)) _ rfl rfl) $$ [H2 HO]
  · isplitr; · iexact HR
    isplitr; · iexact Hlev
    isplitl [H2] <;> iassumption
  iintro ⟨H2, HO⟩
  iapply (wp_resend m ρ K c 3 h h' hh (Function.update (Function.update (Function.update (fun _ => h'.val) 0 (h'.val + 1)) 1 (h'.val + 1)) 2 (h'.val + 1)) _ rfl rfl) $$ [H3 HO]
  · isplitr; · iexact HR
    isplitr; · iexact Hlev
    isplitl [H3] <;> iassumption
  iintro ⟨H3, HO⟩
  rw [← counts_step]
  iapply (wp_recvs m ρ K c h') $$ [H0 H1 H2 H3 HO]
  · isplitr; · iexact HR
    isplitr; · iexact Hlev
    isplitr [HO]
    · unfold four
      isplitl [H0]; · iexact H0
      isplitl [H1]; · iexact H1
      isplitl [H2] <;> iassumption
    iexact HO
  iexact Hk

/-- The first hop. -/
theorem wp_firstHop (c : Dev nD) {Q : PUnit → sProp 𝕄} {k : P F PUnit} :
    iprop(records m ρ K ∗ levAts L lv ∗ four (fun l => idle m ρ c l (0 : Fin 15).val) ∗ OW c (fun _ => (0 : Fin 15).val))
      ⊢ iprop(((four (fun l => got m ρ c l (0 : Fin 15).val) ∗ OW c (fun _ => (0 : Fin 15).val + 1)) -∗ wp frame (wpE (defs₀ (F := F)) 𝒱₀ (c : Thread nD τ) none) Set.univ k Q)
          -∗ wp frame (wpE (defs₀ (F := F)) 𝒱₀ (c : Thread nD τ) none) Set.univ (firstHop c k) Q) := by
  unfold firstHop
  iintro ⟨#HR, #Hlev, H4, HO⟩ Hk
  ihave H4 := (Entails.of_eq (show four (fun l => idle m ρ c l (0 : Fin 15).val) = iprop(idle m ρ c 0 (0 : Fin 15).val ∗ idle m ρ c 1 (0 : Fin 15).val ∗ idle m ρ c 2 (0 : Fin 15).val ∗ idle m ρ c 3 (0 : Fin 15).val) from rfl)) $$ H4
  icases H4 with ⟨H0, H1, H2, H3⟩
  iapply (wp_sendOp m ρ K c 0 0 (fun _ => (0 : Fin 15).val) _ rfl rfl) $$ [H0 HO]
  · isplitr; · iexact HR
    isplitl [H0] <;> iassumption
  iintro ⟨H0, HO⟩
  iapply (wp_sendOp m ρ K c 1 0 (Function.update (fun _ => (0 : Fin 15).val) 0 ((0 : Fin 15).val + 1)) _ rfl rfl) $$ [H1 HO]
  · isplitr; · iexact HR
    isplitl [H1] <;> iassumption
  iintro ⟨H1, HO⟩
  iapply (wp_sendOp m ρ K c 2 0 (Function.update (Function.update (fun _ => (0 : Fin 15).val) 0 ((0 : Fin 15).val + 1)) 1 ((0 : Fin 15).val + 1)) _ rfl rfl) $$ [H2 HO]
  · isplitr; · iexact HR
    isplitl [H2] <;> iassumption
  iintro ⟨H2, HO⟩
  iapply (wp_sendOp m ρ K c 3 0 (Function.update (Function.update (Function.update (fun _ => (0 : Fin 15).val) 0 ((0 : Fin 15).val + 1)) 1 ((0 : Fin 15).val + 1)) 2 ((0 : Fin 15).val + 1)) _ rfl rfl) $$ [H3 HO]
  · isplitr; · iexact HR
    isplitl [H3] <;> iassumption
  iintro ⟨H3, HO⟩
  iapply (wp_recvs m ρ K c 0) $$ [H0 H1 H2 H3 HO]
  · isplitr; · iexact HR
    isplitr; · iexact Hlev
    isplitr [HO]
    · unfold four
      isplitl [H0]; · iexact H0
      isplitl [H1]; · iexact H1
      isplitl [H2] <;> iassumption
    iapply (Entails.of_eq (congrArg (OW (F := F) c) (counts_step (0 : Fin 15).val).symm)) $$ HO
  iexact Hk

/-- The first `n` of the later hops. -/
theorem wp_hops (c : Dev nD) (n : ℕ) (hn : n < 15) {Q : PUnit → sProp 𝕄} {k : P F PUnit} :
    iprop(records m ρ K ∗ levAts L lv ∗ four (fun l => got m ρ c l (0 : Fin 15).val) ∗ OW c (fun _ => (0 : Fin 15).val + 1))
      ⊢ iprop(((four (fun l => got m ρ c l n) ∗ OW c (fun _ => n + 1)) -∗ wp frame (wpE (defs₀ (F := F)) 𝒱₀ (c : Thread nD τ) none) Set.univ k Q)
          -∗ wp frame (wpE (defs₀ (F := F)) 𝒱₀ (c : Thread nD τ) none) Set.univ (hops c n hn k) Q) := by
  induction n generalizing k with
  | zero =>
    unfold hops
    iintro ⟨-, -, H4, HO⟩ Hk
    iapply Hk
    isplitl [H4]; · iexact H4
    iexact HO
  | succ n ih =>
    unfold hops
    iintro ⟨#HR, #Hlev, H4, HO⟩ Hk
    iapply (ih (Nat.lt_of_succ_lt hn)) $$ [H4 HO]
    · isplitr; · iexact HR
      isplitr; · iexact Hlev
      isplitl [H4] <;> iassumption
    iintro ⟨H4, HO⟩
    iapply (wp_hop m ρ K c ⟨n, Nat.lt_of_succ_lt hn⟩ ⟨n + 1, hn⟩ rfl) $$ [H4 HO]
    · isplitr; · iexact HR
      isplitr; · iexact Hlev
      isplitl [H4] <;> iassumption
    iexact Hk

/-- The last blocks have left. -/
theorem wp_drain (c : Dev nD) {Q : PUnit → sProp 𝕄} {k : P F PUnit} :
    iprop(records m ρ K ∗ levAts L lv ∗ four (fun l => got m ρ c l (14 : Fin 15).val) ∗ OW c (fun _ => 15))
      ⊢ iprop(((four (fun l => idle m ρ c l ((14 : Fin 15).val + 1)) ∗ OW c (fun _ => 15)) -∗ wp frame (wpE (defs₀ (F := F)) 𝒱₀ (c : Thread nD τ) none) Set.univ k Q)
          -∗ wp frame (wpE (defs₀ (F := F)) 𝒱₀ (c : Thread nD τ) none) Set.univ (drain k) Q) := by
  unfold drain four
  iintro ⟨#HR, #Hlev, ⟨H0, H1, H2, H3⟩, HO⟩ Hk
  iapply (wp_waitSOp m ρ K c 0 14 (fun _ => 15)) $$ [H0 HO]
  · isplitr; · iexact HR
    isplitr; · iexact Hlev
    isplitl [H0] <;> iassumption
  iintro ⟨H0, HO⟩
  iapply (wp_waitSOp m ρ K c 1 14 (fun _ => 15)) $$ [H1 HO]
  · isplitr; · iexact HR
    isplitr; · iexact Hlev
    isplitl [H1] <;> iassumption
  iintro ⟨H1, HO⟩
  iapply (wp_waitSOp m ρ K c 2 14 (fun _ => 15)) $$ [H2 HO]
  · isplitr; · iexact HR
    isplitr; · iexact Hlev
    isplitl [H2] <;> iassumption
  iintro ⟨H2, HO⟩
  iapply (wp_waitSOp m ρ K c 3 14 (fun _ => 15)) $$ [H3 HO]
  · isplitr; · iexact HR
    isplitr; · iexact Hlev
    isplitl [H3] <;> iassumption
  iintro ⟨H3, HO⟩
  iapply Hk
  isplitr [HO]
  · isplitl [H0]; · iexact H0
    isplitl [H1]; · iexact H1
    isplitl [H2] <;> iassumption
  iexact HO

/-- The gathering: from slot 0 of every lane filled to every slot filled. -/
theorem wp_gather (c : Dev nD) {Q : PUnit → sProp 𝕄} {k : P F PUnit} :
    iprop(records m ρ K ∗ levAts L lv ∗ four (fun l => idle m ρ c l (0 : Fin 15).val) ∗ OW c (fun _ => (0 : Fin 15).val))
      ⊢ iprop(((four (fun l => idle m ρ c l ((14 : Fin 15).val + 1)) ∗ OW c (fun _ => 15)) -∗ wp frame (wpE (defs₀ (F := F)) 𝒱₀ (c : Thread nD τ) none) Set.univ k Q)
          -∗ wp frame (wpE (defs₀ (F := F)) 𝒱₀ (c : Thread nD τ) none) Set.univ (gather c k) Q) := by
  unfold gather
  iintro ⟨#HR, #Hlev, H4, HO⟩ Hk
  iapply (wp_firstHop m ρ K c) $$ [H4 HO]
  · isplitr; · iexact HR
    isplitr; · iexact Hlev
    isplitl [H4] <;> iassumption
  iintro ⟨H4, HO⟩
  iapply (wp_hops m ρ K c 14 _) $$ [H4 HO]
  · isplitr; · iexact HR
    isplitr; · iexact Hlev
    isplitl [H4] <;> iassumption
  iintro ⟨H4, HO⟩
  iapply (wp_drain m ρ K c) $$ [H4 HO]
  · isplitr; · iexact HR
    isplitr; · iexact Hlev
    isplitl [H4]; · iexact H4
    iexact HO
  iexact Hk

end Cert.KernelIdeal.Proof
-- ==== Proof.Buffers.lean ====
module

public import proofs.«01_k».proof.Proof.Hops
public import Idealize.ShloMosaic.Lib.Ring

/-! A gathering buffer as its sixteen slots, and the filling of slot 0. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Slots side by side -/

/-- The columns of slot `s` in a buffer of gathered columns. -/
abbrev xr (s : Fin 16) : Rect S4096x2048 := Rect.unit (s := S4096x2048) ![0, 128 * s.val] S4096x128.size (x_inb s)
/-- The rows of slot `s` in a buffer of gathered rows. -/
abbrev wr (s : Fin 16) : Rect S2048x2048 := Rect.unit (s := S2048x2048) ![128 * s.val, 0] S128x2048.size (w_inb s)

set_option backward.proofsInPublic true in
/-- Sixteen blocks of columns side by side. -/
def xall (B : Fin 16 → Vec F S4096x128 .fp8e4m3) : Vec F S4096x2048 .fp8e4m3 := fun i =>
  B ⟨(i 1).val / 128, (Nat.div_lt_iff_lt_mul (by decide)).mpr (i 1).isLt⟩ (Shape.pair (i 0) ⟨(i 1).val % 128, Nat.mod_lt _ (by decide)⟩)
set_option backward.proofsInPublic true in
/-- Sixteen blocks of rows one below another. -/
def wall (B : Fin 16 → Vec F S128x2048 .fp8e5m2) : Vec F S2048x2048 .fp8e5m2 := fun i =>
  B ⟨(i 0).val / 128, (Nat.div_lt_iff_lt_mul (by decide)).mpr (i 0).isLt⟩ (Shape.pair ⟨(i 0).val % 128, Nat.mod_lt _ (by decide)⟩ (i 1))

/-- Slot `s` of sixteen blocks of columns side by side is block `s`. -/
theorem xall_emb (B : Fin 16 → Vec F S4096x128 .fp8e4m3) (s : Fin 16) : (fun j => xall B ((xr s).emb j)) = B s := by
  funext j
  have h0 : (((xr s).emb j) 0).val = (j 0).val := by show 0 + 1 * (j 0).val = _; omega
  have h1 : (((xr s).emb j) 1).val = 128 * s.val + (j 1).val := by show 128 * s.val + 1 * (j 1).val = _; omega
  have hj : (j 1).val < 128 := (j 1).isLt
  unfold xall
  have e1 : (⟨(((xr s).emb j) 1).val / 128, (Nat.div_lt_iff_lt_mul (by decide)).mpr (((xr s).emb j) 1).isLt⟩ : Fin 16) = s :=
    Fin.ext (by show (((xr s).emb j) 1).val / 128 = s.val; rw [h1]; omega)
  rw [e1]
  congr 1
  refine Eq.trans ?_ (Shape.pair_eta j)
  congr 1
  · exact Fin.ext h0
  · exact Fin.ext (by show (((xr s).emb j) 1).val % 128 = (j 1).val; rw [h1]; omega)

/-- Slot `s` of sixteen blocks of rows one below another is block `s`. -/
theorem wall_emb (B : Fin 16 → Vec F S128x2048 .fp8e5m2) (s : Fin 16) : (fun j => wall B ((wr s).emb j)) = B s := by
  funext j
  have h1 : (((wr s).emb j) 1).val = (j 1).val := by show 0 + 1 * (j 1).val = _; omega
  have h0 : (((wr s).emb j) 0).val = 128 * s.val + (j 0).val := by show 128 * s.val + 1 * (j 0).val = _; omega
  have hj : (j 0).val < 128 := (j 0).isLt
  unfold wall
  have e1 : (⟨(((wr s).emb j) 0).val / 128, (Nat.div_lt_iff_lt_mul (by decide)).mpr (((wr s).emb j) 0).isLt⟩ : Fin 16) = s :=
    Fin.ext (by show (((wr s).emb j) 0).val / 128 = s.val; rw [h0]; omega)
  rw [e1]
  congr 1
  refine Eq.trans ?_ (Shape.pair_eta j)
  congr 1
  · exact Fin.ext (by show (((wr s).emb j) 0).val % 128 = (j 0).val; rw [h0]; omega)
  · exact Fin.ext h1

/-! ## A buffer is its slots -/

/-- A buffer of gathered columns is its sixteen slots, each holding its part of the contents. -/
theorem xslots_eq (c : Dev nD) (M : Memref sig .tc .vmem S4096x2048 .fp8e4m3) (g : M.view.ty.Contents (Elt F)) :
    (M.view.loc (c : Thread nD τ) ↦[M.view.set]{fullShare} g : sProp 𝕄)
      = bigSep Finset.univ fun s => owns (c : Thread nD τ) (xslot M s) fullShare (fun j => M.view.read (Elt F) g ((xr s).emb j)) :=
  pointsTo_rects (c : Thread nD τ) M fullShare xr (fun _ _ => rfl)
    (Ring.lead_disjoint (s := S4096x2048) 1 128 (fun s => ![0, 128 * s.val]) S4096x128.size x_inb (fun _ => rfl) rfl)
    (Ring.lead_cover (s := S4096x2048) 1 128 (fun s => ![0, 128 * s.val]) S4096x128.size x_inb (fun _ => rfl)
      (fun b a ha => by fin_cases a <;> first | rfl | exact absurd rfl ha) rfl (fun a ha => by fin_cases a <;> first | rfl | exact absurd rfl ha) rfl) g

/-- A buffer of gathered rows is its sixteen slots, each holding its part of the contents. -/
theorem wslots_eq (c : Dev nD) (M : Memref sig .tc .vmem S2048x2048 .fp8e5m2) (g : M.view.ty.Contents (Elt F)) :
    (M.view.loc (c : Thread nD τ) ↦[M.view.set]{fullShare} g : sProp 𝕄)
      = bigSep Finset.univ fun s => owns (c : Thread nD τ) (wslot M s) fullShare (fun j => M.view.read (Elt F) g ((wr s).emb j)) :=
  pointsTo_rects (c : Thread nD τ) M fullShare wr (fun _ _ => rfl)
    (Ring.lead_disjoint (s := S2048x2048) 0 128 (fun s => ![128 * s.val, 0]) S128x2048.size w_inb (fun _ => rfl) rfl)
    (Ring.lead_cover (s := S2048x2048) 0 128 (fun s => ![128 * s.val, 0]) S128x2048.size w_inb (fun _ => rfl)
      (fun b a ha => by fin_cases a <;> first | rfl | exact absurd rfl ha) rfl (fun a ha => by fin_cases a <;> first | rfl | exact absurd rfl ha) rfl) g

omit [FloatOps F] in
/-- Slot 0, and the rest. -/
theorem slots_split (Φ : Fin 16 → sProp 𝕄) : bigSep Finset.univ Φ = iprop(Φ 0 ∗ bigSep Finset.univ fun h : Fin 15 => Φ h.succ) := by
  rw [bigSep_univ_split 0, show (Finset.univ.erase 0 : Finset (Fin 16)) = Finset.univ.map ⟨Fin.succ, Fin.succ_injective _⟩ from by decide, bigSep_map]
  rfl

omit [FloatOps F] in
/-- What is held at known contents is held at some contents. -/
theorem owns_any {sh : Shape} {e : EltTy} (c : Dev nD) (M : Memref sig .tc .vmem sh e) (X : sh.Idx → Elt F e) :
    (owns (c : Thread nD τ) M fullShare X : sProp 𝕄) ⊢ iprop(∃ f, M.view.loc (c : Thread nD τ) ↦[M.view.set]{fullShare} f) := by
  unfold owns
  iintro ⟨%f, -, H⟩
  iexists f; iexact H

/-! ## Filling slot 0 -/

/-- The staged block's columns go to slot 0 of the buffer; the buffer's other slots hold whatever they held. -/
theorem wp_fillX (c : Dev nD) (M : Memref sig .tc .vmem S4096x2048 .fp8e4m3) (hM : M.IsWhole) (o : ℕ)
    (ho : ∀ a, (![0, o] : Fin 2 → Nat) a + S4096x128.size a ≤ S4096x256.size a) (f : M.view.ty.Contents (Elt F))
    {Q : PUnit → sProp 𝕄} {k : P F PUnit} :
    iprop((A0.view.loc (c : Thread nD τ) ↦[A0.view.set]{fullShare} xst m ρ c) ∗ (M.view.loc (c : Thread nD τ) ↦[M.view.set]{fullShare} f))
      ⊢ iprop((((A0.view.loc (c : Thread nD τ) ↦[A0.view.set]{fullShare} xst m ρ c) ∗ owns (c : Thread nD τ) (xslot M 0) fullShare (xblk m ρ o ho c)
            ∗ bigSep Finset.univ fun h : Fin 15 => iprop(∃ f, (xslot M h.succ).view.loc (c : Thread nD τ) ↦[(xslot M h.succ).view.set]{fullShare} f))
          -∗ wp frame (wpE (defs₀ (F := F)) 𝒱₀ (c : Thread nD τ) none) Set.univ k Q)
        -∗ wp frame (wpE (defs₀ (F := F)) 𝒱₀ (c : Thread nD τ) none) Set.univ (fillX M hM o ho k) Q) := by
  unfold fillX
  iintro ⟨HA, HM⟩ Hk
  iapply (wp_load 𝒱₀ (c : Thread nD τ) none Set.univ (m := A0) (A0.view.setOn_subset_set _)) $$ HA; iintro HA
  iapply (wp_load 𝒱₀ (c : Thread nD τ) none Set.univ (m := M) (M.view.setOn_subset_set _)) $$ HM; iintro HM
  iapply (wp_store 𝒱₀ (c : Thread nD τ) none Set.univ (m := M) (r := xr 0) (Mk := Finset.univ) (S := M.view.set) (f := f) (((M.access (xr 0)).setOn_subset_set _).trans (View.set_slice_subset _ _))) $$ HM; iintro HM
  iapply Hk
  isplitl [HA]; · iexact HA
  ihave H := (Entails.of_eq ((xslots_eq c M _).trans (slots_split _))) $$ HM
  icases H with ⟨H0, HR⟩
  isplitl [H0]
  · iapply (Entails.of_eq (congrArg (owns (c : Thread nD τ) (xslot M 0) fullShare) (show _ = xblk m ρ o ho c from ?_))) $$ H0
    exact View.read_write_univ _ _
  iapply (show (bigSep Finset.univ fun h : Fin 15 => owns (c : Thread nD τ) (xslot M h.succ) fullShare
      (fun j => M.view.read (Elt F) _ ((xr h.succ).emb j)) : sProp 𝕄) ⊢ _ from bigSep_mono fun h _ => owns_any c (xslot M h.succ) _) $$ HR

/-- The staged block's rows go to slot 0 of the buffer; the buffer's other slots hold whatever they held. -/
theorem wp_fillW (c : Dev nD) (M : Memref sig .tc .vmem S2048x2048 .fp8e5m2) (hM : M.IsWhole) (o : ℕ)
    (ho : ∀ a, (![o, 0] : Fin 2 → Nat) a + S128x2048.size a ≤ S256x2048.size a) (f : M.view.ty.Contents (Elt F))
    {Q : PUnit → sProp 𝕄} {k : P F PUnit} :
    iprop((A1.view.loc (c : Thread nD τ) ↦[A1.view.set]{fullShare} wst m ρ c) ∗ (M.view.loc (c : Thread nD τ) ↦[M.view.set]{fullShare} f))
      ⊢ iprop((((A1.view.loc (c : Thread nD τ) ↦[A1.view.set]{fullShare} wst m ρ c) ∗ owns (c : Thread nD τ) (wslot M 0) fullShare (wblk m ρ o ho c)
            ∗ bigSep Finset.univ fun h : Fin 15 => iprop(∃ f, (wslot M h.succ).view.loc (c : Thread nD τ) ↦[(wslot M h.succ).view.set]{fullShare} f))
          -∗ wp frame (wpE (defs₀ (F := F)) 𝒱₀ (c : Thread nD τ) none) Set.univ k Q)
        -∗ wp frame (wpE (defs₀ (F := F)) 𝒱₀ (c : Thread nD τ) none) Set.univ (fillW M hM o ho k) Q) := by
  unfold fillW
  iintro ⟨HA, HM⟩ Hk
  iapply (wp_load 𝒱₀ (c : Thread nD τ) none Set.univ (m := A1) (A1.view.setOn_subset_set _)) $$ HA; iintro HA
  iapply (wp_load 𝒱₀ (c : Thread nD τ) none Set.univ (m := M) (M.view.setOn_subset_set _)) $$ HM; iintro HM
  iapply (wp_store 𝒱₀ (c : Thread nD τ) none Set.univ (m := M) (r := wr 0) (Mk := Finset.univ) (S := M.view.set) (f := f) (((M.access (wr 0)).setOn_subset_set _).trans (View.set_slice_subset _ _))) $$ HM; iintro HM
  iapply Hk
  isplitl [HA]; · iexact HA
  ihave H := (Entails.of_eq ((wslots_eq c M _).trans (slots_split _))) $$ HM
  icases H with ⟨H0, HR⟩
  isplitl [H0]
  · iapply (Entails.of_eq (congrArg (owns (c : Thread nD τ) (wslot M 0) fullShare) (show _ = wblk m ρ o ho c from ?_))) $$ H0
    exact View.read_write_univ _ _
  iapply (show (bigSep Finset.univ fun h : Fin 15 => owns (c : Thread nD τ) (wslot M h.succ) fullShare
      (fun j => M.view.read (Elt F) _ ((wr h.succ).emb j)) : sProp 𝕄) ⊢ _ from bigSep_mono fun h _ => owns_any c (wslot M h.succ) _) $$ HR

/-! ## The buffers, gathered -/

/-- What lane 0's buffer holds once all its blocks are in; then lane 1's, 2's and 3's. -/
def full0 (c : Dev nD) : Vec F S4096x2048 .fp8e4m3 := xall fun s => blk m ρ 0 (org 0 c s)
/-- What the gathered rows of lane 1 end as. -/
def full1 (c : Dev nD) : Vec F S2048x2048 .fp8e5m2 := wall fun s => blk m ρ 1 (org 1 c s)
/-- What the gathered columns of lane 2 end as. -/
def full2 (c : Dev nD) : Vec F S4096x2048 .fp8e4m3 := xall fun s => blk m ρ 2 (org 2 c s)
/-- What the gathered rows of lane 3 end as. -/
def full3 (c : Dev nD) : Vec F S2048x2048 .fp8e5m2 := wall fun s => blk m ρ 3 (org 3 c s)

/-- Lane 0's slots, each holding its block, are the whole buffer at those contents; so are the other lanes'. -/
theorem slots_full0 (c : Dev nD) : slots m ρ c 0 Finset.univ = (X0.view.loc (c : Thread nD τ) ↦[X0.view.set]{fullShare} full0 m ρ c : sProp 𝕄) := by
  rw [xslots_eq]
  exact bigSep_congr fun s _ => congrArg (owns (c : Thread nD τ) (xslot X0 s) fullShare) (xall_emb (fun s => blk m ρ 0 (org 0 c s)) s).symm
/-- The sixteen filled slots of lane 1 are the whole buffer at `full1`. -/
theorem slots_full1 (c : Dev nD) : slots m ρ c 1 Finset.univ = (W0.view.loc (c : Thread nD τ) ↦[W0.view.set]{fullShare} full1 m ρ c : sProp 𝕄) := by
  rw [wslots_eq]
  exact bigSep_congr fun s _ => congrArg (owns (c : Thread nD τ) (wslot W0 s) fullShare) (wall_emb (fun s => blk m ρ 1 (org 1 c s)) s).symm
/-- The sixteen filled slots of lane 2 are the whole buffer at `full2`. -/
theorem slots_full2 (c : Dev nD) : slots m ρ c 2 Finset.univ = (X1.view.loc (c : Thread nD τ) ↦[X1.view.set]{fullShare} full2 m ρ c : sProp 𝕄) := by
  rw [xslots_eq]
  exact bigSep_congr fun s _ => congrArg (owns (c : Thread nD τ) (xslot X1 s) fullShare) (xall_emb (fun s => blk m ρ 2 (org 2 c s)) s).symm
/-- The sixteen filled slots of lane 3 are the whole buffer at `full3`. -/
theorem slots_full3 (c : Dev nD) : slots m ρ c 3 Finset.univ = (W1.view.loc (c : Thread nD τ) ↦[W1.view.set]{fullShare} full3 m ρ c : sProp 𝕄) := by
  rw [wslots_eq]
  exact bigSep_congr fun s _ => congrArg (owns (c : Thread nD τ) (wslot W1 s) fullShare) (wall_emb (fun s => blk m ρ 3 (org 3 c s)) s).symm

end Cert.KernelIdeal.Proof
-- ==== Proof.Meet.lean ====
module

public import proofs.«01_k».proof.Proof.Buffers

/-! Filling the four first slots, and the meeting of a device with its two neighbours. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Device `c`'s scale of `x`, as staged. -/
def sxst (c : Dev nD) : (cc0_stg2_0 : Ref sig .tc).ty.Contents (Elt F) :=
  (win0_2.blk (0 : Fin 1)).view.read (Elt F) ((s₀ m ρ).mem ((c : Thread nD τ).loc main_arg2))
/-- Device `c`'s scale of `w`, as staged. -/
def swst (c : Dev nD) : (cc0_stg3_0 : Ref sig .tc).ty.Contents (Elt F) :=
  (win0_3.blk (0 : Fin 1)).view.read (Elt F) ((s₀ m ρ).mem ((c : Thread nD τ).loc main_arg3))

/-- A scale as the kernel reads it: the one element of its array. -/
def scal (b : Vec F S1 .f32) : F .f32 := b (Shape.Idx.first (by decide))

/-- The zero offset of an array of one axis. -/
theorem zero1 : (![0] : Fin 1 → Nat) = fun _ => 0 := funext fun a => by fin_cases a; rfl
/-- Reading the scale of `x` reads the whole of its array. -/
theorem read_A2 (f : (cc0_stg2_0 : Ref sig .tc).ty.Contents (Elt F)) :
    A2.view.readAt (Elt F) (Rect.unit (s := S1) ![0] S1.size inb_S1_S1_0).toLoadRect f = f := Memref.readAt_unit_zero (Elt F) cc0_stg2_0 zero1 _ f
/-- Reading the scale of `w` reads the whole of its array. -/
theorem read_A3 (f : (cc0_stg3_0 : Ref sig .tc).ty.Contents (Elt F)) :
    A3.view.readAt (Elt F) (Rect.unit (s := S1) ![0] S1.size inb_S1_S1_0).toLoadRect f = f := Memref.readAt_unit_zero (Elt F) cc0_stg3_0 zero1 _ f

/-- A device's own slots of a lane from the second on are what the sender to this lane fills. -/
theorem landing_prev (c : Dev nD) (l : Fin 4) :
    landing (F := F) (prev l c) l = bigSep Finset.univ fun h : Fin 15 => slotAny c l h.succ := by
  unfold landing; rw [next_prev]

/-- Slot 0 of a lane, holding the device's own block. -/
theorem slots_one (c : Dev nD) (l : Fin 4) :
    owns (c : Thread nD τ) ((lane l).slot 0) fullShare (blk m ρ l c) = slots m ρ c l (ltS 1) := by
  unfold slots; rw [ltS_one, bigSep_singleton]; unfold slotOwn; rw [org_zero]; rfl

/-- The device's staged blocks of `x` and `w`. -/
def ins (c : Dev nD) : sProp 𝕄 :=
  iprop((A0.view.loc (c : Thread nD τ) ↦[A0.view.set]{fullShare} xst m ρ c) ∗ (A1.view.loc (c : Thread nD τ) ↦[A1.view.set]{fullShare} wst m ρ c))

/-- The four gathering buffers at any contents. -/
def bufsAny (c : Dev nD) : sProp 𝕄 :=
  iprop((∃ f, X0.view.loc (c : Thread nD τ) ↦[X0.view.set]{fullShare} f) ∗ (∃ f, W0.view.loc (c : Thread nD τ) ↦[W0.view.set]{fullShare} f)
    ∗ (∃ f, X1.view.loc (c : Thread nD τ) ↦[X1.view.set]{fullShare} f) ∗ (∃ f, W1.view.loc (c : Thread nD τ) ↦[W1.view.set]{fullShare} f))

/-- The four fills: every lane's slot 0 holds the device's own block, the other slots are ready to be handed to the senders. -/
theorem wp_fills (c : Dev nD) {Q : PUnit → sProp 𝕄} {k : P F PUnit} :
    iprop(ins m ρ c ∗ bufsAny c)
      ⊢ iprop(((ins m ρ c ∗ four (fun l => slots m ρ c l (ltS 1)) ∗ four (fun l => landing (F := F) (prev l c) l))
          -∗ wp frame (wpE (defs₀ (F := F)) 𝒱₀ (c : Thread nD τ) none) Set.univ k Q)
        -∗ wp frame (wpE (defs₀ (F := F)) 𝒱₀ (c : Thread nD τ) none) Set.univ (fills k) Q) := by
  unfold fills ins bufsAny
  iintro ⟨⟨HA, HB⟩, ⟨%f0, H0⟩, ⟨%f1, H1⟩, ⟨%f2, H2⟩, ⟨%f3, H3⟩⟩ Hk
  iapply (wp_fillX m ρ c X0 (Memref.isWhole_whole _) 0 inb_S4096x256_S4096x128_0_0 f0) $$ [HA H0]
  · isplitl [HA] <;> iassumption
  iintro ⟨HA, H0, L0⟩
  iapply (wp_fillW m ρ c W0 (Memref.isWhole_whole _) 0 inb_S256x2048_S128x2048_0_0 f1) $$ [HB H1]
  · isplitl [HB] <;> iassumption
  iintro ⟨HB, H1, L1⟩
  iapply (wp_fillX m ρ c X1 (Memref.isWhole_whole _) 128 inb_S4096x256_S4096x128_0_128 f2) $$ [HA H2]
  · isplitl [HA] <;> iassumption
  iintro ⟨HA, H2, L2⟩
  iapply (wp_fillW m ρ c W1 (Memref.isWhole_whole _) 128 inb_S256x2048_S128x2048_128_0 f3) $$ [HB H3]
  · isplitl [HB] <;> iassumption
  iintro ⟨HB, H3, L3⟩
  iapply Hk
  unfold four
  isplitl [HA HB]
  · isplitl [HA] <;> iassumption
  isplitl [H0 H1 H2 H3]
  · isplitl [H0]; · iapply (Entails.of_eq (slots_one m ρ c 0)); iexact H0
    isplitl [H1]; · iapply (Entails.of_eq (slots_one m ρ c 1)); iexact H1
    isplitl [H2]; · iapply (Entails.of_eq (slots_one m ρ c 2)); iexact H2
    iapply (Entails.of_eq (slots_one m ρ c 3)); iexact H3
  isplitl [L0]; · iapply (Entails.of_eq (landing_prev c 0).symm); iexact L0
  isplitl [L1]; · iapply (Entails.of_eq (landing_prev c 1).symm); iexact L1
  isplitl [L2]; · iapply (Entails.of_eq (landing_prev c 2).symm); iexact L2
  iapply (Entails.of_eq (landing_prev c 3).symm); iexact L3

/-- The two staged scales. -/
def scales (c : Dev nD) : sProp 𝕄 :=
  iprop((A2.view.loc (c : Thread nD τ) ↦[A2.view.set]{fullShare} sxst m ρ c) ∗ (A3.view.loc (c : Thread nD τ) ↦[A3.view.set]{fullShare} swst m ρ c))

variable (K : Dev nD × CI → ℕ)

/-- The product of the scales is read; both neighbours get the slots they fill; the device gets its neighbours' slots. -/
theorem wp_scalesAndMeet (c : Dev nD) (W : Waits sig Unit) {Q : PUnit → sProp 𝕄} {k : F .f32 → P F PUnit} :
    iprop(records m ρ K ∗ levAts L lv ∗ scales m ρ c ∗ owes (c : Thread nD τ) (O₀ c) W
        ∗ dutyTok ER (barCell (lft c)) 0 true ∗ dutyTok ER (barCell (rgt c)) 0 false
        ∗ cred (tallyAt (barCell c) () 2) ∗ atPos ER (barCell c) 0 ∅ 0 ∗ four (fun l => landing (F := F) (prev l c) l))
      ⊢ iprop(((scales m ρ c ∗ OW c (fun _ => (0 : Fin 15).val) ∗ atPos ER (barCell c) 1 ∅ 0 ∗ four (fun l => landing (F := F) c l))
          -∗ wp frame (wpE (defs₀ (F := F)) 𝒱₀ (c : Thread nD τ) none) Set.univ (k (k0_pay8 (scal (sxst m ρ c)) (scal (swst m ρ c)))) Q)
        -∗ wp frame (wpE (defs₀ (F := F)) 𝒱₀ (c : Thread nD τ) none) Set.univ (scalesAndMeet c k) Q) := by
  unfold scalesAndMeet scales four
  simp only [smemLoad, smemLoadElt, semSignalWord, semWaitWord, Prog.lift, Prog.bind_op, Prog.bind_ret, Prog.pure_eq_ret]
  iintro ⟨#HR, #Hlev, ⟨H2, H3⟩, HO, Ht1, Ht2, Hc, Hat, L0, L1, L2, L3⟩ Hk
  iapply (wp_load 𝒱₀ (c : Thread nD τ) none Set.univ (m := A2) (A2.view.setOn_subset_set _)) $$ H2; iintro H2
  iapply (wp_load 𝒱₀ (c : Thread nD τ) none Set.univ (m := A3) (A3.view.setOn_subset_set _)) $$ H3; iintro H3
  iapply (Rounds.wp_signal 𝒱₀ ER (ringRd m ρ) (c : Thread nD τ) none (dst := (lft c : Thread nD τ)) (κ := K (lft c, none))
      (d := true) (by rw [duties_bar]; exact Finset.mem_univ _) ((amount_kcell m ρ (lft c) none 0 true).trans (by decide)) () (O₁ c) rfl)
    $$ [HO Ht1 L0 L1]
  · isplitr; · iapply (inv_at m ρ K (lft c, none)) $$ HR
    isplitl [HO]; · iexact HO
    isplitl [Ht1]; · iexact Ht1
    isplitl [L0 L1]
    · rw [payload_bar_true]; isplitl [L0]; · iexact L0
      iexact L1
    iapply (reached_at m ρ K (lft c, none)) $$ HR
  iintro HO
  unfold O₁
  iapply (Rounds.wp_signal 𝒱₀ ER (ringRd m ρ) (c : Thread nD τ) none (dst := (rgt c : Thread nD τ)) (κ := K (rgt c, none))
      (d := false) (by rw [duties_bar]; exact Finset.mem_univ _) ((amount_kcell m ρ (rgt c) none 0 false).trans (by decide)) () (owed c (fun _ => 0)) rfl)
    $$ [HO Ht2 L2 L3]
  · isplitr; · iapply (inv_at m ρ K (rgt c, none)) $$ HR
    isplitl [HO]; · iexact HO
    isplitl [Ht2]; · iexact Ht2
    isplitl [L2 L3]
    · rw [payload_bar_false]; isplitl [L2]; · iexact L2
      iexact L3
    iapply (reached_at m ρ K (rgt c, none)) $$ HR
  iintro HO
  iapply (Rounds.wp_wait_rest_token 𝒱₀ ER (ringRd m ρ) (c : Thread nD τ) none (κ := K (c, none))
      (wpE_semWait_eq 𝒱₀ (c : Thread nD τ) none Set.univ) (Set.mem_univ _) () (O := owed c (fun _ => 0)) (W := W) (R := 0) (m := 0) (T := ∅)
      (by rw [expect_bar]; decide)) $$ [Hc HO Hat]
  · isplitr; · iapply (inv_at m ρ K (c, none)) $$ HR
    isplitl [Hc]; · iexact Hc
    isplitl [HO]; · iexact HO
    isplitr; · iapply (mayWait_owed c (.reg barS) (fun _ => 0) (fun l => by rw [lv_bar]; decide)) $$ Hlev
    iexact Hat
  iintro ⟨HO, Hat, -, Hpay⟩
  ihave Hp := (Entails.of_eq (rest_bar m ρ c)) $$ Hpay
  icases Hp with ⟨⟨L2, L3⟩, L0, L1⟩
  rw [read_A2, read_A3]
  iapply Hk
  isplitl [H2 H3]
  · isplitl [H2] <;> iassumption
  isplitl [HO]
  · unfold OW; iexists _; iexact HO
  isplitl [Hat]; · iexact Hat
  isplitl [L0]; · iexact L0
  isplitl [L1]; · iexact L1
  isplitl [L2]; · iexact L2
  iexact L3

end Cert.KernelIdeal.Proof
-- ==== Proof.Products.lean ====
module

public import proofs.«01_k».proof.Proof.Meet

/-! The products: what the result's buffer holds after the loops over its panels. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Panels -/

/-- The rows of panel `p` of the result. -/
abbrev pr (p : Fin 16) : Rect S4096x2048 := Rect.unit (s := S4096x2048) ![256 * p.val, 0] S256x2048.size (o_inb p)

/-- Panel `p` of the result. -/
def pan (p : Fin 16) (f : Vec F S4096x2048 .f32) : Vec F S256x2048 .f32 := fun j => f ((pr p).emb j)

set_option backward.proofsInPublic true in
/-- The result whose panels before `n` are those of `v`, the others those of `f`. -/
def mix (n : ℕ) (v : Fin 16 → Vec F S256x2048 .f32) (f : Vec F S4096x2048 .f32) : Vec F S4096x2048 .f32 := fun i =>
  if (i 0).val < 256 * n then
    v ⟨(i 0).val / 256, (Nat.div_lt_iff_lt_mul (by decide)).mpr (i 0).isLt⟩ (Shape.pair ⟨(i 0).val % 256, Nat.mod_lt _ (by decide)⟩ (i 1))
  else f i

/-- Row `r` of panel `p` is row `256 p + r` of the result. -/
theorem pr_emb0 (p : Fin 16) (j : S256x2048.Idx) : (((pr p).emb j) 0).val = 256 * p.val + (j 0).val := by
  show 256 * p.val + 1 * (j 0).val = _; omega
/-- A panel has all the columns of the result. -/
theorem pr_emb1 (p : Fin 16) (j : S256x2048.Idx) : (((pr p).emb j) 1).val = (j 1).val := by
  show 0 + 1 * (j 1).val = _; omega

/-- Inside panel `p` the panels' contents are those of `v p`. -/
theorem glue_emb (v : Fin 16 → Vec F S256x2048 .f32) (p : Fin 16) (j : S256x2048.Idx) :
    v ⟨(((pr p).emb j) 0).val / 256, (Nat.div_lt_iff_lt_mul (by decide)).mpr (((pr p).emb j) 0).isLt⟩
      (Shape.pair ⟨(((pr p).emb j) 0).val % 256, Nat.mod_lt _ (by decide)⟩ (((pr p).emb j) 1)) = v p j := by
  have h0 := pr_emb0 p j
  have hj : (j 0).val < 256 := (j 0).isLt
  have e : (⟨(((pr p).emb j) 0).val / 256, (Nat.div_lt_iff_lt_mul (by decide)).mpr (((pr p).emb j) 0).isLt⟩ : Fin 16) = p :=
    Fin.ext (by show (((pr p).emb j) 0).val / 256 = p.val; rw [h0]; omega)
  rw [e]
  congr 1
  refine Eq.trans ?_ (Shape.pair_eta j)
  congr 1
  · exact Fin.ext (by show (((pr p).emb j) 0).val % 256 = (j 0).val; rw [h0]; omega)
  · exact Fin.ext (pr_emb1 p j)

/-- A panel before `n` of the mixture is that of `v`. -/
theorem pan_mix_of_lt (n : ℕ) (v : Fin 16 → Vec F S256x2048 .f32) (f : Vec F S4096x2048 .f32) (p : Fin 16) (hp : p.val < n) : pan p (mix n v f) = v p := by
  funext j
  have h0 := pr_emb0 p j
  have hj : (j 0).val < 256 := (j 0).isLt
  unfold pan mix
  rw [if_pos (by omega)]
  exact glue_emb v p j

/-- A panel from `n` on of the mixture is that of `f`. -/
theorem pan_mix_of_ge (n : ℕ) (v : Fin 16 → Vec F S256x2048 .f32) (f : Vec F S4096x2048 .f32) (p : Fin 16) (hp : n ≤ p.val) : pan p (mix n v f) = pan p f := by
  funext j
  have h0 := pr_emb0 p j
  unfold pan mix
  rw [if_neg (by omega)]

/-- With no panel written the former contents are unchanged. -/
theorem mix_zero (v : Fin 16 → Vec F S256x2048 .f32) (f : Vec F S4096x2048 .f32) : mix 0 v f = f := by
  funext i; unfold mix; rw [if_neg (by omega)]

/-- Once every panel is written nothing of the former contents is left. -/
theorem mix_all (v : Fin 16 → Vec F S256x2048 .f32) (f g : Vec F S4096x2048 .f32) : mix 16 v f = mix 16 v g := by
  funext i
  have hi : (i 0).val < 4096 := (i 0).isLt
  unfold mix; rw [if_pos (by omega), if_pos (by omega)]

/-- A load of a panel of the result reads it. -/
theorem read_pan (p : Fin 16) (f : Vec F S4096x2048 .f32) : A4.view.readAt (Elt F) (pr p).toLoadRect f = pan p f := rfl

/-- A store to a panel, inside the panel. -/
theorem write_pr_emb (p : Fin 16) (f : Vec F S4096x2048 .f32) (w : Vec F S256x2048 .f32) (j : S256x2048.Idx) :
    (A4.access (pr p) : View sig .tc _ _ _).write (Elt F) f w Finset.univ ((pr p).emb j) = w j :=
  View.write_emb_of_mem (v := (A4.access (pr p) : View sig .tc _ _ _)) (Val := Elt F) f w (Finset.mem_univ j)

/-- A store to a panel, outside it. -/
theorem write_pr_off (p : Fin 16) (f : Vec F S4096x2048 .f32) (w : Vec F S256x2048 .f32) (i : S4096x2048.Idx) (h : ∀ j, (pr p).emb j ≠ i) :
    (A4.access (pr p) : View sig .tc _ _ _).write (Elt F) f w Finset.univ i = f i :=
  View.write_of_not_mem (v := (A4.access (pr p) : View sig .tc _ _ _)) (Val := Elt F) f w Finset.univ fun hm => by
    obtain ⟨j, -, hj⟩ := Finset.mem_map.mp hm
    exact h j hj

/-- An index of the rows of panel `p` is one of the panel's. -/
theorem mem_pr (p : Fin 16) (i : S4096x2048.Idx) (h : 256 * p.val ≤ (i 0).val) (h' : (i 0).val < 256 * (p.val + 1)) : ∃ j, (pr p).emb j = i := by
  refine ⟨Shape.pair ⟨(i 0).val - 256 * p.val, show _ < 256 by omega⟩ (i 1), funext fun a => Fin.ext ?_⟩
  fin_cases a
  · exact (pr_emb0 p _).trans (show 256 * p.val + ((i 0).val - 256 * p.val) = (i 0).val by omega)
  · exact pr_emb1 p _

/-- A store of panel `n`'s contents extends the panels written. -/
theorem write_pan (n : ℕ) (hn : n < 16) (v : Fin 16 → Vec F S256x2048 .f32) (f : Vec F S4096x2048 .f32) :
    (A4.access (pr ⟨n, hn⟩) : View sig .tc _ _ _).write (Elt F) (mix n v f) (v ⟨n, hn⟩) Finset.univ = mix (n + 1) v f := by
  refine funext fun (i : S4096x2048.Idx) => ?_
  by_cases h : 256 * n ≤ (i 0).val ∧ (i 0).val < 256 * (n + 1)
  · obtain ⟨j, rfl⟩ := mem_pr ⟨n, hn⟩ i h.1 h.2
    rw [write_pr_emb]
    exact (congrFun (pan_mix_of_lt (n + 1) v f ⟨n, hn⟩ (Nat.lt_succ_self n)) j).symm
  · rw [write_pr_off]
    · unfold mix
      by_cases h1 : (i 0).val < 256 * n
      · rw [if_pos h1, if_pos (by omega)]
      · rw [if_neg h1, if_neg (by omega)]
    · intro j hj
      refine h ?_
      have h0 := pr_emb0 ⟨n, hn⟩ j
      rw [hj] at h0
      have hj' : (j 0).val < 256 := (j 0).isLt
      have h0' : (i 0).val = 256 * n + (j 0).val := h0
      omega

/-- The result's buffer, at contents `f`. -/
def outPts (c : Dev nD) (f : Vec F S4096x2048 .f32) : sProp 𝕄 := A4.view.loc (c : Thread nD τ) ↦[A4.view.set]{fullShare} f

/-- The loop over the panels, each trip turning its panel into `V p` of it. -/
theorem wp_panels (c : Dev nD) (H : sProp 𝕄) (trip : Fin 16 → P F PUnit → P F PUnit) (V : Fin 16 → Vec F S256x2048 .f32 → Vec F S256x2048 .f32)
    (htrip : ∀ (p : Fin 16) (f : Vec F S4096x2048 .f32) (Q : PUnit → sProp 𝕄) (k : P F PUnit),
      iprop(H ∗ outPts c f) ⊢ iprop(((H ∗ outPts c ((A4.access (pr p) : View sig .tc _ _ _).write (Elt F) f (V p (pan p f)) Finset.univ))
          -∗ wp frame (wpE (defs₀ (F := F)) 𝒱₀ (c : Thread nD τ) none) Set.univ k Q)
        -∗ wp frame (wpE (defs₀ (F := F)) 𝒱₀ (c : Thread nD τ) none) Set.univ (trip p k) Q))
    (n : ℕ) (hn : n ≤ 16) (f : Vec F S4096x2048 .f32) {Q : PUnit → sProp 𝕄} {k : P F PUnit} :
    iprop(H ∗ outPts c f) ⊢ iprop(((H ∗ outPts c (mix n (fun p => V p (pan p f)) f))
          -∗ wp frame (wpE (defs₀ (F := F)) 𝒱₀ (c : Thread nD τ) none) Set.univ k Q)
        -∗ wp frame (wpE (defs₀ (F := F)) 𝒱₀ (c : Thread nD τ) none) Set.univ (panels trip n hn k) Q) := by
  induction n generalizing k with
  | zero =>
    unfold panels
    rw [mix_zero]
    iintro H Hk
    iapply Hk; iexact H
  | succ n ih =>
    unfold panels
    iintro H Hk
    iapply (ih (Nat.le_of_succ_le hn)) $$ H
    iintro H
    iapply (htrip ⟨n, hn⟩ _ _ _) $$ H
    iintro H
    iapply Hk
    rw [pan_mix_of_ge n _ f ⟨n, hn⟩ le_rfl, write_pan n hn (fun p => V p (pan p f)) f]
    iexact H

/-! ## The four loops -/

/-- The four gathered buffers, at given contents. -/
def bufs (c : Dev nD) (x0 : Vec F S4096x2048 .fp8e4m3) (w0 : Vec F S2048x2048 .fp8e5m2) (x1 : Vec F S4096x2048 .fp8e4m3) (w1 : Vec F S2048x2048 .fp8e5m2) : sProp 𝕄 :=
  iprop((X0.view.loc (c : Thread nD τ) ↦[X0.view.set]{fullShare} x0) ∗ (W0.view.loc (c : Thread nD τ) ↦[W0.view.set]{fullShare} w0)
    ∗ (X1.view.loc (c : Thread nD τ) ↦[X1.view.set]{fullShare} x1) ∗ (W1.view.loc (c : Thread nD τ) ↦[W1.view.set]{fullShare} w1))

/-- Panel `p`'s columns of group `g`. -/
def acol (g : Fin 4) (p : Fin 16) (x : Vec F S4096x2048 .fp8e4m3) : Vec F S256x512 .fp8e4m3 := fun j =>
  x ((Rect.unit (s := S4096x2048) ![256 * p.val, 512 * g.val] S256x512.size (a_inb g p)).emb j)
/-- The rows of group `g`. -/
def brow (g : Fin 4) (w : Vec F S2048x2048 .fp8e5m2) : Vec F S512x2048 .fp8e5m2 := fun j =>
  w ((Rect.unit (s := S2048x2048) ![512 * g.val, 0] S512x2048.size (b_inb g)).emb j)

section Loops

variable (c : Dev nD) (x0 : Vec F S4096x2048 .fp8e4m3) (w0 : Vec F S2048x2048 .fp8e5m2) (x1 : Vec F S4096x2048 .fp8e4m3) (w1 : Vec F S2048x2048 .fp8e5m2)

/-- Reading a group's operands of one panel gives the panel's columns and the group's rows, of both directions. -/
theorem wp_reads (g : Fin 4) (p : Fin 16) {Q : PUnit → sProp 𝕄}
    {k : Vec F S256x512 .fp8e4m3 → Vec F S512x2048 .fp8e5m2 → Vec F S256x512 .fp8e4m3 → Vec F S512x2048 .fp8e5m2 → P F PUnit} :
    bufs c x0 w0 x1 w1 ⊢ iprop((bufs c x0 w0 x1 w1
          -∗ wp frame (wpE (defs₀ (F := F)) 𝒱₀ (c : Thread nD τ) none) Set.univ (k (acol g p x0) (brow g w0) (acol g p x1) (brow g w1)) Q)
        -∗ wp frame (wpE (defs₀ (F := F)) 𝒱₀ (c : Thread nD τ) none) Set.univ (reads g p k) Q) := by
  unfold reads bufs
  iintro ⟨H0, H1, H2, H3⟩ Hk
  iapply (wp_load 𝒱₀ (c : Thread nD τ) none Set.univ (m := X0) (X0.view.setOn_subset_set _)) $$ H0; iintro H0
  iapply (wp_load 𝒱₀ (c : Thread nD τ) none Set.univ (m := W0) (W0.view.setOn_subset_set _)) $$ H1; iintro H1
  iapply (wp_load 𝒱₀ (c : Thread nD τ) none Set.univ (m := X1) (X1.view.setOn_subset_set _)) $$ H2; iintro H2
  iapply (wp_load 𝒱₀ (c : Thread nD τ) none Set.univ (m := W1) (W1.view.setOn_subset_set _)) $$ H3; iintro H3
  iapply Hk
  isplitl [H0]; · iexact H0
  isplitl [H1]; · iexact H1
  isplitl [H2]; · iexact H2
  iexact H3

/-- Reading a panel of the result. -/
theorem wp_readOut (p : Fin 16) (f : Vec F S4096x2048 .f32) {Q : PUnit → sProp 𝕄} {k : Vec F S256x2048 .f32 → P F PUnit} :
    outPts c f ⊢ iprop((outPts c f -∗ wp frame (wpE (defs₀ (F := F)) 𝒱₀ (c : Thread nD τ) none) Set.univ (k (pan p f)) Q)
        -∗ wp frame (wpE (defs₀ (F := F)) 𝒱₀ (c : Thread nD τ) none) Set.univ (readOut p k) Q) := by
  unfold readOut outPts
  iintro H Hk
  iapply (wp_load 𝒱₀ (c : Thread nD τ) none Set.univ (m := A4) (A4.view.setOn_subset_set _)) $$ H; iintro H
  iapply Hk; iexact H

/-- Writing a panel of the result. -/
theorem wp_storeOut (p : Fin 16) (f : Vec F S4096x2048 .f32) (v : Vec F S256x2048 .f32) {Q : PUnit → sProp 𝕄} {k : P F PUnit} :
    outPts c f ⊢ iprop((outPts c ((A4.access (pr p) : View sig .tc _ _ _).write (Elt F) f v Finset.univ)
          -∗ wp frame (wpE (defs₀ (F := F)) 𝒱₀ (c : Thread nD τ) none) Set.univ k Q)
        -∗ wp frame (wpE (defs₀ (F := F)) 𝒱₀ (c : Thread nD τ) none) Set.univ (storeOut p v k) Q) := by
  unfold storeOut outPts
  iintro H Hk
  iapply (wp_store 𝒱₀ (c : Thread nD τ) none Set.univ (m := A4) (r := pr p) (Mk := Finset.univ) (S := A4.view.set) (f := f)
    (Finset.Subset.trans ((A4.access (pr p)).setOn_subset_set _) (View.set_slice_subset _ _))) $$ H
  iexact Hk

/-- One panel of the first group. -/
def val0 (p : Fin 16) : Vec F S256x2048 .f32 := k0_pay9 (acol 0 p x0) (brow 0 w0) (acol 0 p x1) (brow 0 w1)
/-- One panel of a middle group, on top of `v`. -/
def valN (g : Fin 4) (p : Fin 16) (v : Vec F S256x2048 .f32) : Vec F S256x2048 .f32 := k0_pay13 (acol g p x0) (brow g w0) (acol g p x1) (brow g w1) v
/-- One panel of the last group, on top of `v`, scaled and passed through the activation. -/
def val3 (s : F .f32) (p : Fin 16) (v : Vec F S256x2048 .f32) : Vec F S256x2048 .f32 := k0_pay1 s (acol 3 p x0) (brow 3 w0) (acol 3 p x1) (brow 3 w1) v

/-- What panel `p` of the result ends as. -/
def panelOut (s : F .f32) (p : Fin 16) : Vec F S256x2048 .f32 :=
  val3 x0 w0 x1 w1 s p (valN x0 w0 x1 w1 2 p (valN x0 w0 x1 w1 1 p (val0 x0 w0 x1 w1 p)))

/-- One trip of the first loop: its panel becomes the first group's products. -/
theorem wp_trip0 (p : Fin 16) (f : Vec F S4096x2048 .f32) (Q : PUnit → sProp 𝕄) (k : P F PUnit) :
    iprop(bufs c x0 w0 x1 w1 ∗ outPts c f)
      ⊢ iprop(((bufs c x0 w0 x1 w1 ∗ outPts c ((A4.access (pr p) : View sig .tc _ _ _).write (Elt F) f (val0 x0 w0 x1 w1 p) Finset.univ))
          -∗ wp frame (wpE (defs₀ (F := F)) 𝒱₀ (c : Thread nD τ) none) Set.univ k Q)
        -∗ wp frame (wpE (defs₀ (F := F)) 𝒱₀ (c : Thread nD τ) none) Set.univ (trip0 p k) Q) := by
  unfold trip0
  iintro ⟨HB, HO⟩ Hk
  iapply (wp_reads c x0 w0 x1 w1 0 p) $$ HB; iintro HB
  iapply (wp_readOut c p f) $$ HO; iintro HO
  iapply (wp_storeOut c p f _) $$ HO; iintro HO
  iapply Hk
  isplitl [HB]; · iexact HB
  iexact HO

/-- One trip of a later loop: its panel becomes `t` of the group's operands and of what the panel held. -/
theorem wp_tripN (g : Fin 4) (t : Vec F S256x512 .fp8e4m3 → Vec F S512x2048 .fp8e5m2 → Vec F S256x512 .fp8e4m3 → Vec F S512x2048 .fp8e5m2 →
      Vec F S256x2048 .f32 → Vec F S256x2048 .f32) (p : Fin 16) (f : Vec F S4096x2048 .f32) (Q : PUnit → sProp 𝕄) (k : P F PUnit) :
    iprop(bufs c x0 w0 x1 w1 ∗ outPts c f)
      ⊢ iprop(((bufs c x0 w0 x1 w1 ∗ outPts c ((A4.access (pr p) : View sig .tc _ _ _).write (Elt F) f
            (t (acol g p x0) (brow g w0) (acol g p x1) (brow g w1) (pan p f)) Finset.univ))
          -∗ wp frame (wpE (defs₀ (F := F)) 𝒱₀ (c : Thread nD τ) none) Set.univ k Q)
        -∗ wp frame (wpE (defs₀ (F := F)) 𝒱₀ (c : Thread nD τ) none) Set.univ (tripN g t p k) Q) := by
  unfold tripN
  iintro ⟨HB, HO⟩ Hk
  iapply (wp_reads c x0 w0 x1 w1 g p) $$ HB; iintro HB
  iapply (wp_readOut c p f) $$ HO; iintro HO
  iapply (wp_readOut c p f) $$ HO; iintro HO
  iapply (wp_storeOut c p f _) $$ HO; iintro HO
  iapply Hk
  isplitl [HB]; · iexact HB
  iexact HO

set_option backward.proofsInPublic true in
/-- Sixteen panels one below another. -/
def pall (v : Fin 16 → Vec F S256x2048 .f32) : Vec F S4096x2048 .f32 := fun i =>
  v ⟨(i 0).val / 256, (Nat.div_lt_iff_lt_mul (by decide)).mpr (i 0).isLt⟩ (Shape.pair ⟨(i 0).val % 256, Nat.mod_lt _ (by decide)⟩ (i 1))

/-- Once every panel is written the result is the sixteen panels one below another. -/
theorem mix_pall (v : Fin 16 → Vec F S256x2048 .f32) (f : Vec F S4096x2048 .f32) : mix 16 v f = pall v := by
  funext i
  have hi : (i 0).val < 4096 := (i 0).isLt
  unfold mix pall; rw [if_pos (by omega)]

/-- Panel `p` of sixteen panels one below another is the `p`-th of them. -/
theorem pan_pall (v : Fin 16 → Vec F S256x2048 .f32) (p : Fin 16) : pan p (pall v) = v p := by
  rw [← mix_pall v (pall v)]; exact pan_mix_of_lt 16 v _ p p.isLt

/-- The products: the result's buffer ends with every panel at `panelOut`. -/
theorem wp_products (s : F .f32) (f : Vec F S4096x2048 .f32) (Q : PUnit → sProp 𝕄) :
    iprop(bufs c x0 w0 x1 w1 ∗ outPts c f)
      ⊢ iprop(((bufs c x0 w0 x1 w1 ∗ outPts c (pall (panelOut x0 w0 x1 w1 s))) -∗ |={Set.univ}=> Q ⟨⟩)
        -∗ wp frame (wpE (defs₀ (F := F)) 𝒱₀ (c : Thread nD τ) none) Set.univ (products s) Q) := by
  unfold products
  iintro H Hk
  iapply (wp_panels c (bufs c x0 w0 x1 w1) trip0 (fun p _ => val0 x0 w0 x1 w1 p) (wp_trip0 c x0 w0 x1 w1) 16 (Nat.le_refl 16) f) $$ H; iintro H
  rw [mix_pall]
  iapply (wp_panels c (bufs c x0 w0 x1 w1) (tripN 1 k0_pay13) (valN x0 w0 x1 w1 1) (wp_tripN c x0 w0 x1 w1 1 k0_pay13) 16 (Nat.le_refl 16) _) $$ H; iintro H
  rw [mix_pall]
  iapply (wp_panels c (bufs c x0 w0 x1 w1) (tripN 2 k0_pay13) (valN x0 w0 x1 w1 2) (wp_tripN c x0 w0 x1 w1 2 k0_pay13) 16 (Nat.le_refl 16) _) $$ H; iintro H
  rw [mix_pall]
  iapply (wp_panels c (bufs c x0 w0 x1 w1) (tripN 3 (k0_pay1 s)) (val3 x0 w0 x1 w1 s) (wp_tripN c x0 w0 x1 w1 3 (k0_pay1 s)) 16 (Nat.le_refl 16) _) $$ H; iintro H
  rw [mix_pall]
  simp only [pan_pall]
  rw [wp_ret]
  iapply Hk
  iexact H

end Loops

end Cert.KernelIdeal.Proof
-- ==== Proof.Body.lean ====
module

public import proofs.«01_k».proof.Proof.Products
public import Idealize.ShloMosaic.Lib.Rounds.Family

/-! The kernel's body on one device, from what the launch gives it to what it leaves. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- A lane's positions and the tokens of the duties it pays. -/
def laneGhost (c : Dev nD) (l : Fin 4) : sProp 𝕄 :=
  iprop(atPos ER (sendCell c l) 0 ∅ 0 ∗ (bigSep Finset.univ fun h : Fin 15 => dutyTok ER (sendCell c l) h.val false)
    ∗ (bigSep Finset.univ fun h : Fin 15 => dutyTok ER (recvCell ((lane l).next c) l h) 0 false)
    ∗ (bigSep Finset.univ fun h : Fin 15 => atPos ER (recvCell c l h) 0 ∅ 0))

/-- The blocks a lane will receive, as credit. -/
def laneCred (c : Dev nD) (l : Fin 4) : sProp 𝕄 := bigSep Finset.univ fun h : Fin 15 => cred (tallyAt (recvCell c l h) () (Nl l))

/-- The ring's state at the start of device `c`, the cells' invariants under the names `K`. -/
def ghost (K : Dev nD × CI → ℕ) (c : Dev nD) : sProp 𝕄 :=
  iprop(records m ρ K ∗ atPos ER (barCell c) 0 ∅ 0 ∗ (dutyTok ER (barCell (lft c)) 0 true ∗ dutyTok ER (barCell (rgt c)) 0 false) ∗ four (fun l => laneGhost (F := F) c l))

/-- What device `c` starts from. -/
def start (c : Dev nD) : sProp 𝕄 :=
  iprop((∃ K, ghost m ρ K c) ∗ cred (tallyAt (barCell c) () 2) ∗ four (fun l => laneCred (F := F) c l) ∗ levAts L lv)

/-- What a device holds before its body: the ring's state, and the gathering buffers at any contents. -/
def Φ₀ (c : Dev nD) : sProp 𝕄 := iprop(start m ρ c ∗ bufsAny (F := F) c)
/-- What it ends with: the gathering buffers and its cells' counters, at zero. -/
def Φ₁ (c : Dev nD) : sProp 𝕄 := iprop(bufsAny (F := F) c ∗ bigSep Finset.univ fun k : CI => semVal (kcell (c, k)) 0)

variable (K : Dev nD × CI → ℕ)

/-- A lane about to begin. -/
theorem idle_intro (c : Dev nD) (l : Fin 4) :
    iprop(records m ρ K ∗ laneGhost (F := F) c l ∗ laneCred (F := F) c l ∗ landing (F := F) c l ∗ slots m ρ c l (ltS 1)) ⊢ idle m ρ c l (0 : Fin 15).val := by
  unfold laneGhost laneCred landing idle toSend toRecv received
  rw [show (0 : Fin 15).val = 0 from rfl, ge_zero, lt_zero, bigSep_sep', bigSep_sep', bigSep_sep', bigSep_empty]
  iintro ⟨#HR, ⟨Ha, Hs, Ht, Hr⟩, Hc, HL, H0⟩
  isplitl [Ha]; · iexact Ha
  isplitr; · iapply (reached_at m ρ K (c, some (.inl l))) $$ HR
  isplitl [H0]; · iexact H0
  isplitl [Hs Ht HL]
  · isplitl [Hs]; · iexact Hs
    isplitl [Ht]; · iexact Ht
    iexact HL
  isplitl [Hc Hr]
  · isplitl [Hc]; · iexact Hc
    iexact Hr
  iempintro

/-- A lane that has finished: its buffer is full, its cells are used up. -/
theorem idle_done (c : Dev nD) (l : Fin 4) :
    idle m ρ c l ((14 : Fin 15).val + 1) ⊢ iprop(slots m ρ c l Finset.univ ∗ (atPos ER (sendCell c l) 15 ∅ 0 ∗ bigSep Finset.univ fun h : Fin 15 => atPos ER (recvCell c l h) 1 ∅ 0)) := by
  unfold idle received
  rw [show (14 : Fin 15).val + 1 = 15 from rfl, lt_last, ltS_last]
  iintro ⟨Ha, -, Hs, -, -, Hr⟩
  isplitl [Hs]; · iexact Hs
  isplitl [Ha]; · iexact Ha
  iexact Hr

/-! ## Closing the cells -/

omit [FloatOps F] in
/-- Something of every lane is something of each of the four lanes. -/
theorem bigSep_four (Φ : Fin 4 → sProp 𝕄) : bigSep Finset.univ Φ = four Φ := bigSep_univ_eq_bigSepL [0, 1, 2, 3] (by decide) (by decide) Φ

omit [FloatOps F] in
/-- A device's cells: the barrier's, the sends', the receives'. -/
theorem cells_split (Φ : CI → sProp 𝕄) :
    bigSep Finset.univ Φ = iprop(Φ none ∗ bigSep Finset.univ fun k : Fin 4 ⊕ (Fin 4 × Fin 15) => Φ (some k)) := by
  rw [bigSep_univ_split none, show (Finset.univ.erase none : Finset CI) = Finset.univ.map Function.Embedding.some from by
    ext x; rcases x with _ | x <;> simp, bigSep_map]
  rfl

omit [FloatOps F] in
/-- The same, the send cells by lane and the receive cells by lane and hop. -/
theorem cells_lanes (Φ : CI → sProp 𝕄) :
    bigSep Finset.univ Φ = iprop(Φ none ∗ (bigSep Finset.univ fun l : Fin 4 => Φ (some (.inl l)))
      ∗ bigSep Finset.univ fun l : Fin 4 => bigSep Finset.univ fun h : Fin 15 => Φ (some (.inr (l, h)))) := by
  rw [cells_split, bigSep_univ_sum, bigSep_univ_prod]
  rfl

/-- The round at which a cell is used up. -/
def lastRound : CI → ℕ
  | some (.inl _) => 15
  | _ => 1

/-- From that round on a cell has no duty. -/
theorem duties_last (c : Dev nD) (k : CI) (r : ℕ) (hr : lastRound k ≤ r) : (ringRd (F := F) m ρ).duties (kcell (c, k)) r = ∅ := by
  rw [duties_kcell]
  rcases k with _ | l | ⟨l, h⟩
  · exact if_neg (fun h0 => by rw [h0] at hr; exact absurd hr (by decide))
  · exact if_neg (Nat.not_lt.mpr hr)
  · exact if_neg (fun h0 => by rw [h0] at hr; exact absurd (show 1 ≤ 0 from hr) (by decide))

/-- All used up, a device's cells give back their counters. -/
theorem close (c : Dev nD) :
    iprop(records m ρ K ∗ atPos ER (barCell c) 1 ∅ 0
        ∗ four (fun l => iprop(atPos ER (sendCell c l) 15 ∅ 0 ∗ bigSep Finset.univ fun h : Fin 15 => atPos ER (recvCell c l h) 1 ∅ 0)))
      ⊢ (|={Set.univ}=> bigSep Finset.univ fun k : CI => semVal (kcell (c, k)) 0 : sProp 𝕄) := by
  have hp : iprop(atPos ER (barCell c) 1 ∅ 0
        ∗ four (fun l => iprop(atPos ER (sendCell c l) 15 ∅ 0 ∗ bigSep Finset.univ fun h : Fin 15 => atPos ER (recvCell c l h) 1 ∅ 0)))
      = (bigSep Finset.univ fun k : CI => (atPos ER (kcell (c, k)) (lastRound k) ∅ 0 : sProp 𝕄)) := by
    rw [cells_lanes, ← bigSep_four, bigSep_sep']
    rfl
  refine (show _ ⊢ iprop(records m ρ K ∗ bigSep Finset.univ fun k : CI => (atPos ER (kcell (c, k)) (lastRound k) ∅ 0 : sProp 𝕄)) from ?_).trans
    ((bigSep_with_persistent (R := records m ρ K) fun k _ => ?_).trans
      (Rounds.cells_close ER (ringRd m ρ) Finset.univ (fun k => kcell (c, k)) (fun k => K (c, k)) (fun _ _ => Set.mem_univ _) (fun _ _ h => h) lastRound
        (fun k _ r hr => duties_last m ρ c k r hr)))
  · rw [← hp]
  · iintro ⟨#HR, H⟩
    isplitr; · iapply (inv_at m ρ K (c, k)) $$ HR
    iexact H

/-! ## The body -/

/-- Device `c`'s result. -/
def outAt (c : Dev nD) : Vec F S4096x2048 .f32 :=
  pall (panelOut (full0 m ρ c) (full1 m ρ c) (full2 m ρ c) (full3 m ρ c) (k0_pay8 (scal (sxst m ρ c)) (scal (swst m ρ c))))

set_option maxHeartbeats 800000 in
/-- The body: it takes the staged inputs and gives them back with the result, having gathered through the ring. -/
theorem wp_body (c : Dev nD) (W : Waits sig Unit) (f : Vec F S4096x2048 .f32) (Q : PUnit → sProp 𝕄) :
    iprop(ghost m ρ K c ∗ cred (tallyAt (barCell c) () 2) ∗ four (fun l => laneCred (F := F) c l) ∗ levAts L lv ∗ bufsAny (F := F) c
        ∗ owes (c : Thread nD τ) (O₀ c) W ∗ ins m ρ c ∗ scales m ρ c ∗ outPts c f)
      ⊢ iprop(((Φ₁ (F := F) c ∗ (∃ W, owes (c : Thread nD τ) 0 W) ∗ ins m ρ c ∗ scales m ρ c ∗ outPts c (outAt m ρ c)) -∗ Q ⟨⟩)
        -∗ wp frame (wpE (defs₀ (F := F)) 𝒱₀ (c : Thread nD τ) none) Set.univ body Q) := by
  unfold body
  simp only [wp_deviceId]
  unfold ghost
  iintro ⟨⟨#HR, Hat, ⟨Ht1, Ht2⟩, HG⟩, Hcb, HC, #Hlev, HB, HO, Hin, Hsc, Hout⟩ Hk
  iapply (wp_fills m ρ c) $$ [Hin HB]
  · isplitl [Hin] <;> iassumption
  iintro ⟨Hin, HS, HL⟩
  iapply (wp_scalesAndMeet m ρ K c W) $$ [Hsc HO Ht1 Ht2 Hcb Hat HL]
  · isplitr; · iexact HR
    isplitr; · iexact Hlev
    isplitl [Hsc]; · iexact Hsc
    isplitl [HO]; · iexact HO
    isplitl [Ht1]; · iexact Ht1
    isplitl [Ht2]; · iexact Ht2
    isplitl [Hcb]; · iexact Hcb
    isplitl [Hat] <;> iassumption
  iintro ⟨Hsc, HO, Hat, HL⟩
  iapply (wp_gather m ρ K c) $$ [HG HC HL HS HO]
  · isplitr; · iexact HR
    isplitr; · iexact Hlev
    isplitr [HO]
    · unfold four
      icases HG with ⟨G0, G1, G2, G3⟩
      icases HC with ⟨C0, C1, C2, C3⟩
      icases HL with ⟨L0, L1, L2, L3⟩
      icases HS with ⟨S0, S1, S2, S3⟩
      isplitl [G0 C0 L0 S0]
      · iapply (idle_intro m ρ K c 0)
        isplitr; · iexact HR
        isplitl [G0]; · iexact G0
        isplitl [C0]; · iexact C0
        isplitl [L0]; · iexact L0
        iexact S0
      isplitl [G1 C1 L1 S1]
      · iapply (idle_intro m ρ K c 1)
        isplitr; · iexact HR
        isplitl [G1]; · iexact G1
        isplitl [C1]; · iexact C1
        isplitl [L1]; · iexact L1
        iexact S1
      isplitl [G2 C2 L2 S2]
      · iapply (idle_intro m ρ K c 2)
        isplitr; · iexact HR
        isplitl [G2]; · iexact G2
        isplitl [C2]; · iexact C2
        isplitl [L2]; · iexact L2
        iexact S2
      · iapply (idle_intro m ρ K c 3)
        isplitr; · iexact HR
        isplitl [G3]; · iexact G3
        isplitl [C3]; · iexact C3
        isplitl [L3]; · iexact L3
        iexact S3
    iexact HO
  iintro ⟨HI, HO⟩
  unfold four
  icases HI with ⟨I0, I1, I2, I3⟩
  ihave D0 := (idle_done m ρ c 0) $$ I0
  ihave D1 := (idle_done m ρ c 1) $$ I1
  ihave D2 := (idle_done m ρ c 2) $$ I2
  ihave D3 := (idle_done m ρ c 3) $$ I3
  icases D0 with ⟨S0, P0⟩
  icases D1 with ⟨S1, P1⟩
  icases D2 with ⟨S2, P2⟩
  icases D3 with ⟨S3, P3⟩
  ihave S0 := (Entails.of_eq (slots_full0 m ρ c)) $$ S0
  ihave S1 := (Entails.of_eq (slots_full1 m ρ c)) $$ S1
  ihave S2 := (Entails.of_eq (slots_full2 m ρ c)) $$ S2
  ihave S3 := (Entails.of_eq (slots_full3 m ρ c)) $$ S3
  iapply (wp_products c (full0 m ρ c) (full1 m ρ c) (full2 m ρ c) (full3 m ρ c) (k0_pay8 (scal (sxst m ρ c)) (scal (swst m ρ c))) f) $$ [S0 S1 S2 S3 Hout]
  · isplitr [Hout]
    · unfold bufs
      isplitl [S0]; · iexact S0
      isplitl [S1]; · iexact S1
      isplitl [S2]; · iexact S2
      iexact S3
    iexact Hout
  iintro ⟨HB, Hout⟩
  imod (close m ρ K c) $$ [Hat P0 P1 P2 P3] with HZ
  · isplitr; · iexact HR
    isplitl [Hat]; · iexact Hat
    unfold four
    isplitl [P0]; · iexact P0
    isplitl [P1]; · iexact P1
    isplitl [P2]; · iexact P2
    iexact P3
  imodintro
  iapply Hk
  unfold Φ₁ bufs bufsAny
  icases HB with ⟨B0, B1, B2, B3⟩
  isplitl [B0 B1 B2 B3 HZ]
  · isplitr [HZ]
    · isplitl [B0]; · iexists _; iexact B0
      isplitl [B1]; · iexists _; iexact B1
      isplitl [B2]; · iexists _; iexact B2
      iexists _; iexact B3
    iexact HZ
  isplitl [HO]
  · unfold OW; rw [owed_all]; iexact HO
  isplitl [Hin]; · iexact Hin
  isplitl [Hsc]; · iexact Hsc
  iexact Hout

end Cert.KernelIdeal.Proof
-- ==== Proof.Obligation.lean ====
module

public import proofs.«01_k».proof.Proof.Body

/-! The kernel's body as the pipeline asks for it: the staged windows before and after. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The run's data on device `c`: the arrays at launch, the staged contents after the body, the ring's state before
    and after, and what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => wst m ρ c
    | ⟨2, _⟩ => sxst m ρ c
    | ⟨3, _⟩ => swst m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The block of `x` is brought in before the body. -/
theorem fetch_0 : (cfg0.win (0 : Fin 5)).fetch t0_0 = true := rfl
/-- The block of `w` is brought in before the body. -/
theorem fetch_1 : (cfg0.win (1 : Fin 5)).fetch t0_0 = true := rfl
/-- The scale of `x` is brought in before the body. -/
theorem fetch_2 : (cfg0.win (2 : Fin 5)).fetch t0_0 = true := rfl
/-- The scale of `w` is brought in before the body. -/
theorem fetch_3 : (cfg0.win (3 : Fin 5)).fetch t0_0 = true := rfl

omit [FloatOps F] in
/-- Holding a whole buffer at contents `X` is holding its elements at `X`. -/
theorem owns_elim (c : Dev nD) (b : Ref sig .tc) (X : b.ty.Contents (Elt F)) :
    (owns (c : Thread nD τ) (Memref.whole b) fullShare X : sProp 𝕄)
      ⊢ ((Memref.whole b : Memref sig .tc _ _ _).view.loc (c : Thread nD τ) ↦[(Memref.whole b : Memref sig .tc _ _ _).view.set]{fullShare} X) := by
  unfold owns
  iintro ⟨%f, %hf, H⟩
  have h : f = X := hf
  subst h
  iexact H
omit [FloatOps F] in
/-- And the other way round. -/
theorem owns_intro (c : Dev nD) (b : Ref sig .tc) (X : b.ty.Contents (Elt F)) :
    ((Memref.whole b : Memref sig .tc _ _ _).view.loc (c : Thread nD τ) ↦[(Memref.whole b : Memref sig .tc _ _ _).view.set]{fullShare} X : sProp 𝕄)
      ⊢ owns (c : Thread nD τ) (Memref.whole b) fullShare X := by
  unfold owns
  iintro H
  iexists X
  isplitr; · ipureintro; rfl
  iexact H

/-- What the body starts from: the device's state, its debts, and the five staged buffers. -/
def bodyPre (c : Dev nD) : sProp 𝕄 :=
  iprop(Φ₀ m ρ c ∗ (dats m ρ 0 c).owesAt () t0_0.castSucc
    ∗ (∃ d, owns (c : Thread nD τ) (Memref.whole cc0_stg0_0) fullShare ((dats m ρ 0 c).before (0 : Fin 5) t0_0 d))
    ∗ (∃ d, owns (c : Thread nD τ) (Memref.whole cc0_stg1_0) fullShare ((dats m ρ 0 c).before (1 : Fin 5) t0_0 d))
    ∗ (∃ d, owns (c : Thread nD τ) (Memref.whole cc0_stg2_0) fullShare ((dats m ρ 0 c).before (2 : Fin 5) t0_0 d))
    ∗ (∃ d, owns (c : Thread nD τ) (Memref.whole cc0_stg3_0) fullShare ((dats m ρ 0 c).before (3 : Fin 5) t0_0 d))
    ∗ (∃ d, owns (c : Thread nD τ) (Memref.whole cc0_stg4_0) fullShare ((dats m ρ 0 c).before (4 : Fin 5) t0_0 d)))

/-- What the body ends with: the state it leaves, no debts, the inputs as they were and the result at `outAt`. -/
def bodyPost (c : Dev nD) : sProp 𝕄 :=
  iprop(Φ₁ c ∗ (dats m ρ 0 c).owesAt () t0_0.succ
    ∗ owns (c : Thread nD τ) (Memref.whole cc0_stg0_0) fullShare (xst m ρ c)
    ∗ owns (c : Thread nD τ) (Memref.whole cc0_stg1_0) fullShare (wst m ρ c)
    ∗ owns (c : Thread nD τ) (Memref.whole cc0_stg2_0) fullShare (sxst m ρ c)
    ∗ owns (c : Thread nD τ) (Memref.whole cc0_stg3_0) fullShare (swst m ρ c)
    ∗ owns (c : Thread nD τ) (Memref.whole cc0_stg4_0) fullShare (outAt m ρ c))

/-- Before the body the first staged buffer holds the device's block of `x`. -/
theorem before_0 (c : Dev nD) (d) : (dats (F := F) m ρ 0 c).before (0 : Fin 5) t0_0 d = xst m ρ c := by unfold Dat.before; rw [if_pos fetch_0]; rfl
/-- Before the body the second staged buffer holds the device's block of `w`. -/
theorem before_1 (c : Dev nD) (d) : (dats (F := F) m ρ 0 c).before (1 : Fin 5) t0_0 d = wst m ρ c := by unfold Dat.before; rw [if_pos fetch_1]; rfl
/-- Before the body the third staged buffer holds the scale of `x`. -/
theorem before_2 (c : Dev nD) (d) : (dats (F := F) m ρ 0 c).before (2 : Fin 5) t0_0 d = sxst m ρ c := by unfold Dat.before; rw [if_pos fetch_2]; rfl
/-- Before the body the fourth staged buffer holds the scale of `w`. -/
theorem before_3 (c : Dev nD) (d) : (dats (F := F) m ρ 0 c).before (3 : Fin 5) t0_0 d = swst m ρ c := by unfold Dat.before; rw [if_pos fetch_3]; rfl

/-- The body, run from `bodyPre`, ends in `bodyPost`. -/
theorem sound_body (c : Dev nD) : bodyPre m ρ c ⊢ wp frame (wpE (defs₀ (F := F)) 𝒱₀ (c : Thread nD τ) none) Set.univ body (fun _ => bodyPost m ρ c) := by
  unfold bodyPre Φ₀ start
  iintro ⟨⟨⟨⟨%K, HG⟩, Hcb, HC, Hlev⟩, HB⟩, Ho, ⟨%d0, H0⟩, ⟨%d1, H1⟩, ⟨%d2, H2⟩, ⟨%d3, H3⟩, ⟨%d4, H4⟩⟩
  unfold Dat.owesAt Pipeline.owesWithin
  icases Ho with ⟨%W, %hW, HO⟩
  rw [show (dats m ρ 0 c).owed t0_0.castSucc = O₀ c from rfl, before_0, before_1, before_2, before_3]
  ihave H0 := (owns_elim c cc0_stg0_0 _) $$ H0
  ihave H1 := (owns_elim c cc0_stg1_0 _) $$ H1
  ihave H2 := (owns_elim c cc0_stg2_0 _) $$ H2
  ihave H3 := (owns_elim c cc0_stg3_0 _) $$ H3
  ihave H4 := (owns_elim c cc0_stg4_0 _) $$ H4
  iapply (wp_body m ρ K c W ((dats m ρ 0 c).before (4 : Fin 5) t0_0 d4)) $$ [HG Hcb HC Hlev HB HO H0 H1 H2 H3 H4]
  · isplitl [HG]; · iexact HG
    isplitl [Hcb]; · iexact Hcb
    isplitl [HC]; · iexact HC
    isplitl [Hlev]; · iexact Hlev
    isplitl [HB]; · iexact HB
    isplitl [HO]; · iexact HO
    isplitl [H0 H1]
    · unfold ins
      isplitl [H0]; · iexact H0
      iexact H1
    isplitl [H2 H3]
    · unfold scales
      isplitl [H2]; · iexact H2
      iexact H3
    unfold outPts
    iexact H4
  unfold ins scales outPts
  iintro ⟨HΦ, ⟨%W', HO⟩, ⟨H0, H1⟩, ⟨H2, H3⟩, H4⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [H0]; · iapply (owns_intro c cc0_stg0_0 _) $$ H0
  isplitl [H1]; · iapply (owns_intro c cc0_stg1_0 _) $$ H1
  isplitl [H2]; · iapply (owns_intro c cc0_stg2_0 _) $$ H2
  isplitl [H3]; · iapply (owns_intro c cc0_stg3_0 _) $$ H3
  iapply (owns_intro c cc0_stg4_0 _) $$ H4

set_option maxRecDepth 65536 in
/-- The pipeline's obligation on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  show bodyPre m ρ c ⊢ wp frame (wpE (defs₀ (F := F)) 𝒱₀ c none) Set.univ
    (cc0_body (F := F) A0 (Memref.isWhole_whole _) A1 (Memref.isWhole_whole _) A2 (Memref.isWhole_whole _) A3 (Memref.isWhole_whole _) A4 (Memref.isWhole_whole _) X0 (Memref.isWhole_whole _) W0 (Memref.isWhole_whole _) X1 (Memref.isWhole_whole _) W1 (Memref.isWhole_whole _) cc0_scratch4 cc0_scratch5)
    (fun _ => bodyPost m ρ c)
  rw [body_eq]
  exact sound_body m ρ c

end Cert.KernelIdeal.Proof
-- ==== Proof.Start.lean ====
module

public import proofs.«01_k».proof.Proof.Body

/-! What the launch mints for the ring, and how it is dealt to the devices: positions stay, tokens go to the
neighbour that pays the duty. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- A device's duties: its barrier's two, one per lane and hop on the send cells, one on each receive cell. -/
abbrev TI := Bool ⊕ ((Fin 4 × Fin 15) ⊕ (Fin 4 × Fin 15))

/-- The cell, the round and the duty. -/
def tokKey : TI → CI × ℕ × Bool
  | .inl b => (none, 0, b)
  | .inr (.inl (l, h)) => (some (.inl l), h.val, false)
  | .inr (.inr (l, h)) => (some (.inr (l, h)), 0, false)

/-- Different duties of a device differ in cell, round or signaller. -/
theorem tokKey_injective : Function.Injective tokKey := by
  rintro (b | ⟨l, h⟩ | ⟨l, h⟩) (b' | ⟨l', h'⟩ | ⟨l', h'⟩) e <;> simp only [tokKey, Prod.mk.injEq, Option.some.injEq, Sum.inl.injEq, Sum.inr.injEq, reduceCtorEq, false_and, and_false, and_true, true_and] at e
  · rw [e]
  · obtain ⟨rfl, e⟩ := e; rw [Fin.ext e]
  · obtain ⟨rfl, rfl⟩ := e; rfl

/-- The same on device `c`. -/
abbrev tokOf (cj : Dev nD × TI) : GSem nD τ sig × ℕ × Bool := (kcell (cj.1, (tokKey cj.2).1), (tokKey cj.2).2)

/-- Different duties, of whichever devices, are different. -/
theorem tokOf_injective : Function.Injective tokOf := fun a b h => by
  have h1 := kcell_injective (congrArg Prod.fst h)
  have h2 : (tokKey a.2).2 = (tokKey b.2).2 := by have := congrArg Prod.snd h; exact this
  have h3 : a.1 = b.1 := by have := congrArg Prod.fst h1; exact this
  exact Prod.ext h3 (tokKey_injective (Prod.ext (by have := congrArg Prod.snd h1; exact this) h2))

/-- Every cell of the ring. -/
def ringCells : Finset (GSem nD τ sig) := Finset.univ.map ⟨kcell, kcell_injective⟩
/-- Every duty of the ring. -/
def ringToks : Finset (GSem nD τ sig × ℕ × Bool) := Finset.univ.map ⟨tokOf, tokOf_injective⟩

/-- The state at launch: the pipeline's, and the ring's. -/
def u₀ : UU :=
  (initOf (Pipeline.cells cfgs cellOf_inj) (Pipeline.launchToks cfgs cellOf_inj), initOf ringCells ringToks)

/-- The tokens of device `c`'s own cells. -/
def toks (c : Dev nD) : sProp 𝕄 :=
  bigSep Finset.univ fun j : TI => dutyTok ER (tokOf (c, j)).1 (tokOf (c, j)).2.1 (tokOf (c, j)).2.2

/-- What the launch deals device `c`. -/
def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)

/-- What the devices make of it together. -/
def G' (c : Dev nD) : sProp 𝕄 := iprop(∃ K, ghost m ρ K c)

/-- The ring's state at launch is what every device is dealt. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

/-- The kernel's own semaphores: the lanes' sends and receives. -/
abbrev osem (k : Fin 4 ⊕ (Fin 4 × Fin 15)) : SemLoc sig := csem (some k)

omit [FloatOps F] in
/-- The barrier semaphore is the one that outlives the kernel. -/
theorem unscopedSems0_bar (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters are its cells'. -/
theorem sems_cells (c : Dev nD) :
    iprop(unscopedSems0 c ∗ Pipeline.ownSems0 (Ix := Unit) (Name := ℕ) (U := UU) (Lvl := ℕ) (Val := Elt F) (τ := τ) osem c)
      = (bigSep Finset.univ fun k : CI => semVal (kcell (c, k)) 0 : sProp 𝕄) := by
  rw [unscopedSems0_bar, cells_split]; rfl

/-- A device's cells, put under the schedule. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (Entails.of_eq (sems_cells (F := F) c)) $$ [Hos Hus]
  · isplitl [Hus] <;> iassumption
  imod (show iprop((bigSep Finset.univ fun k : CI => semVal (kcell (c, k)) 0) ∗ bigSep Finset.univ fun k : CI => roundState ER (ringRd m ρ) (kcell (c, k)) 0)
      ⊢ (|={Set.univ}=> bigSep Finset.univ fun k : CI => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The tokens of the duties device `c` pays. -/
def payToks (c : Dev nD) : sProp 𝕄 :=
  iprop((dutyTok ER (barCell (lft c)) 0 true ∗ dutyTok ER (barCell (rgt c)) 0 false)
    ∗ (bigSep Finset.univ fun l : Fin 4 => bigSep Finset.univ fun h : Fin 15 => dutyTok ER (sendCell c l) h.val false)
    ∗ bigSep Finset.univ fun l : Fin 4 => bigSep Finset.univ fun h : Fin 15 => dutyTok ER (recvCell ((lane l).next c) l h) 0 false)

omit [FloatOps F] in
/-- A device's own tokens: its barrier's, its sends', its receives'. -/
theorem toks_eq (c : Dev nD) : (toks c : sProp 𝕄) =
    iprop((dutyTok ER (barCell c) 0 true ∗ dutyTok ER (barCell c) 0 false)
    ∗ (bigSep Finset.univ fun l : Fin 4 => bigSep Finset.univ fun h : Fin 15 => dutyTok ER (sendCell c l) h.val false)
    ∗ bigSep Finset.univ fun l : Fin 4 => bigSep Finset.univ fun h : Fin 15 => dutyTok ER (recvCell c l h) 0 false) := by
  unfold toks
  rw [bigSep_univ_sum, bigSep_univ_sum, bigSep_univ_prod, bigSep_univ_prod,
    bigSep_univ_eq_bigSepL [true, false] (by decide) (by decide)]
  rfl

omit [FloatOps F] in
/-- One lane's receive tokens, each handed to the device that will send. -/
theorem recv_around :
    (bigSep Finset.univ fun c : Dev nD => bigSep Finset.univ fun l : Fin 4 => bigSep Finset.univ fun h : Fin 15 => dutyTok ER (recvCell c l h) 0 false : sProp 𝕄)
      = bigSep Finset.univ fun c : Dev nD => bigSep Finset.univ fun l : Fin 4 => bigSep Finset.univ fun h : Fin 15 => dutyTok ER (recvCell ((lane l).next c) l h) 0 false := by
  rw [BI.bigSep_univ_comm (fun (c : Dev nD) (l : Fin 4) => bigSep Finset.univ fun h : Fin 15 => (dutyTok ER (recvCell c l h) 0 false : sProp 𝕄)),
    BI.bigSep_univ_comm (fun (c : Dev nD) (l : Fin 4) => bigSep Finset.univ fun h : Fin 15 => (dutyTok ER (recvCell ((lane l).next c) l h) 0 false : sProp 𝕄))]
  exact bigSep_congr fun l _ => bigSep_univ_equiv (around l) (fun c : Dev nD => (bigSep Finset.univ fun h : Fin 15 => dutyTok ER (recvCell c l h) 0 false : sProp 𝕄))

omit [FloatOps F] in
/-- All tokens, each handed to the device that pays. -/
theorem toks_around : (bigSep Finset.univ fun c : Dev nD => (toks c : sProp 𝕄)) ⊢ bigSep Finset.univ fun c : Dev nD => payToks c := by
  rw [bigSep_congr fun (c : Dev nD) _ => toks_eq (F := F) c]
  unfold payToks
  rw [bigSep_sep', bigSep_sep', bigSep_sep', bigSep_sep', bigSep_sep', bigSep_sep', recv_around,
    bigSep_univ_equiv (around 2) (fun c : Dev nD => (dutyTok ER (barCell c) 0 true : sProp 𝕄)),
    bigSep_univ_equiv (around 0) (fun c : Dev nD => (dutyTok ER (barCell c) 0 false : sProp 𝕄))]
  iintro H
  iexact H

/-- From its positions, its tokens and the records a device has what its body starts from. -/
theorem ghost_intro (K : Dev nD × CI → ℕ) (c : Dev nD) :
    iprop(records m ρ K ∗ (bigSep Finset.univ fun k : CI => atPos ER (kcell (c, k)) 0 ∅ 0) ∗ payToks c) ⊢ G' m ρ c := by
  unfold payToks G' ghost
  rw [cells_lanes, ← bigSep_four]
  unfold laneGhost
  rw [bigSep_sep', bigSep_sep', bigSep_sep']
  iintro ⟨#HR, ⟨HaB, HaS, HaV⟩, HtB, HtS, HtV⟩
  iexists K
  isplitr; · iexact HR
  isplitl [HaB]; · iexact HaB
  isplitl [HtB]; · iexact HtB
  isplitl [HaS]; · iexact HaS
  isplitl [HtS]; · iexact HtS
  isplitl [HtV]; · iexact HtV
  iexact HaV

/-- Every device's cells under the schedule and every token dealt: every device can start. -/
theorem regroup :
    (bigSep Finset.univ fun c : Dev nD => iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · iexact Hat
    iexact Htk

/-- The devices' step before any of them starts. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

omit [FloatOps F] in
/-- Two cells are the same exactly when device and kind are. -/
theorem kcell_eq_iff {a b : Dev nD × CI} : Iff (kcell a = kcell b) (a = b) := kcell_injective.eq_iff

omit [FloatOps F] in
/-- A block is owed to no barrier. -/
theorem owed_bar_zero (d c : Dev nD) (n : Fin 4 → ℕ) : owed d n (barCell c) () = 0 := by
  by_contra h
  obtain ⟨l, k, -, e⟩ := owed_pos (Nat.pos_iff_ne_zero.mpr h)
  have := congrArg Prod.snd (kcell_injective e)
  cases this

omit [FloatOps F] in
/-- What device `d` owes device `c`'s barrier. -/
theorem owed_bar (d c : Dev nD) : O₀ d (barCell c) () = (if d = lft c then 1 else 0) + (if d = rgt c then 1 else 0) := by
  have e1 : Iff (c = rgt d) (d = lft c) := ⟨fun h => by rw [h, lft_rgt], fun h => by rw [h, rgt_lft]⟩
  have e2 : Iff (c = lft d) (d = rgt c) := ⟨fun h => by rw [h, rgt_lft], fun h => by rw [h, lft_rgt]⟩
  unfold O₀ O₁
  rw [Pi.add_apply, Finsupp.add_apply, Pi.add_apply, Finsupp.add_apply, owed_bar_zero, tallyAt_apply, tallyAt_apply, Nat.zero_add]
  simp only [kcell_eq_iff, Prod.mk.injEq, and_true, e1, e2]

omit [FloatOps F] in
/-- What device `d` owes device `c`'s receive cell. -/
theorem owed_recv (d c : Dev nD) (l : Fin 4) (h : Fin 15) : O₀ d (recvCell c l h) () = if d = prev l c then Nl l else 0 := by
  have e1 : ∀ l, Iff (c = (lane l).next d) (d = prev l c) := fun l => ⟨fun h => by rw [h, prev_next], fun h => by rw [h, next_prev]⟩
  unfold O₀ O₁ owed owedLane
  rw [Pi.add_apply, Finsupp.add_apply, Pi.add_apply, Finsupp.add_apply, tallyAt_apply, tallyAt_apply, Finset.sum_apply, Finsupp.finset_sum_apply]
  rw [Finset.sum_eq_single l, Finset.sum_apply, Finsupp.finset_sum_apply, Finset.sum_eq_single h]
  · rw [tallyAt_apply]
    simp only [kcell_eq_iff, Prod.mk.injEq, reduceCtorEq, and_false, false_and, if_false, Nat.add_zero, and_true, e1]
  · intro b _ hb
    rw [tallyAt_apply, if_neg]
    rintro ⟨e, -⟩
    rw [kcell_eq_iff] at e
    simp only [Prod.mk.injEq, Option.some.injEq, Sum.inr.injEq] at e
    exact hb e.2.2.symm
  · intro hn; exact absurd (by rw [ge_zero]; exact Finset.mem_univ h) hn
  · intro b _ hb
    rw [Finset.sum_apply, Finsupp.finset_sum_apply]
    refine Finset.sum_eq_zero fun k _ => ?_
    rw [tallyAt_apply, if_neg]
    rintro ⟨e, -⟩
    rw [kcell_eq_iff] at e
    simp only [Prod.mk.injEq, Option.some.injEq, Sum.inr.injEq] at e
    exact hb e.2.1.symm
  · intro hn; exact absurd (Finset.mem_univ l) hn

omit [FloatOps F] in
/-- The credit of a device's barrier at launch: two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

omit [FloatOps F] in
/-- The credit of a receive cell at launch: one block. -/
theorem launch_recv (c : Dev nD) (l : Fin 4) (h : Fin 15) :
    tallyOn (recvCell c l h) (launchCredit (Pipeline.owing O₀) 0 (recvCell c l h)) = (tallyAt (recvCell c l h) () (Nl l) : CellTallies nD τ sig Unit) := by
  unfold tallyAt; refine congrArg _ (Finsupp.ext fun u => ?_); cases u
  rw [Pipeline.launchCredit_owing, Finsupp.single_eq_same, Finset.sum_congr rfl fun d _ => owed_recv d c l h, Finset.sum_ite_eq' Finset.univ (prev l c) fun _ => Nl l,
    if_pos (Finset.mem_univ _)]

/-- The credit a device is given: two units on its barrier, a block on each receive cell. -/
theorem creds (c : Dev nD) :
    (Pipeline.launchCred O₀ c : sProp 𝕄) ⊢ iprop(cred (tallyAt (barCell c) () 2) ∗ four (fun l => laneCred (F := F) c l)) := by
  unfold Pipeline.launchCred
  refine (show _ ⊢ (bigSep (Finset.univ.map ⟨csem, csem_injective⟩) fun sm : SemLoc sig =>
      cred (tallyOn ((c.tc : Thread nD τ), sm) (launchCredit (Pipeline.owing O₀) 0 ((c.tc : Thread nD τ), sm))) : sProp 𝕄)
    from BI.bigSep_subset (Finset.subset_univ _)).trans ?_
  rw [bigSep_map, cells_lanes, ← bigSep_four]
  unfold laneCred
  iintro ⟨HB, -, HR⟩
  isplitl [HB]
  · rw [← launch_bar]; iexact HB
  · simp only [← launch_recv]
    iexact HR

end Cert.KernelIdeal.Proof
-- ==== Proof.Launch.lean ====
module

public import proofs.«01_k».proof.Proof.Obligation
public import proofs.«01_k».proof.Proof.Start
public import Idealize.ShloMosaic.Lib.Pipeline.CollectiveSegs

/-! The kernel launched on all sixteen devices: every run terminates, with the result each device's body computes. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's conditions -/

/-- The send and receive cells are semaphores of the kernel's own: pairwise different, and none of them stages an array. -/
theorem ownSemFacts : Pipeline.OwnSemFacts cfg0.spec osem where
  isScoped k := by
    rcases k with l | ⟨l, h⟩
    · revert l; decide
    · revert l h; decide
  inj a b h := Option.some.inj (csem_injective h)
  disj k w s := by
    intro h
    have hd : decode (osem k) = some (some k) := decode_csem (some k)
    rw [h] at hd
    have hq : decode (.dma ((cfg0.win w).sem s)) = none := by
      fin_cases w <;> fin_cases s <;> rfl
    exact absurd (hq.symm.trans hd) (by simp)

/-- Every staged array is held in full. -/
theorem share_eq (c : Dev nD) (w : Fin cfg0.W) : (dats m ρ 0 c).share w = fullShare := by unfold Dat.share; split <;> rfl

omit [FloatOps F] in
/-- A whole buffer is its memref's elements. -/
theorem whole_pts (c : Dev nD) (b : Ref sig .tc) (f : Buf (Elt F) ((c : Thread nD τ).loc b)) :
    ((Memref.whole b : Memref sig .tc _ _ _).view.loc (c : Thread nD τ) ↦[(Memref.whole b : Memref sig .tc _ _ _).view.set]{fullShare} f : sProp 𝕄)
      = ((c : Thread nD τ).loc b ↦{fullShare} f) := by
  rw [show (Memref.whole b : Memref sig .tc _ _ _).view.set = Finset.univ from View.set_whole b]

/-- What a device holds as its body begins. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- What the launch hands a device is what its body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufsAny
  iintro ⟨Hs, -, ⟨%f0, H0⟩, ⟨%f1, H1⟩, ⟨%f2, H2⟩, ⟨%f3, H3⟩⟩
  isplitl [Hs]; · iexact Hs
  isplitl [H0]; · iexists f0; iapply (Entails.of_eq (whole_pts c cc0_scratch0 f0).symm); iexact H0
  isplitl [H1]; · iexists f1; iapply (Entails.of_eq (whole_pts c cc0_scratch1 f1).symm); iexact H1
  isplitl [H2]; · iexists f2; iapply (Entails.of_eq (whole_pts c cc0_scratch2 f2).symm); iexact H2
  iexists f3; iapply (Entails.of_eq (whole_pts c cc0_scratch3 f3).symm); iexact H3

/-- What the body ends with is what the launch asks back: the counters at zero, the gathering buffers at any contents. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufsAny
  rw [← sems_cells]
  iintro ⟨⟨⟨%f0, H0⟩, ⟨%f1, H1⟩, ⟨%f2, H2⟩, ⟨%f3, H3⟩⟩, HU, HO⟩
  isplitl [HU]; · iexact HU
  isplitl [HO]; · iexact HO
  isplitl [H0]; · iexists f0; iapply (Entails.of_eq (whole_pts c cc0_scratch0 f0)); iexact H0
  isplitl [H1]; · iexists f1; iapply (Entails.of_eq (whole_pts c cc0_scratch1 f1)); iexact H1
  isplitl [H2]; · iexists f2; iapply (Entails.of_eq (whole_pts c cc0_scratch2 f2)); iexact H2
  iexists f3; iapply (Entails.of_eq (whole_pts c cc0_scratch3 f3)); iexact H3

/-- The staging copies may be waited for. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- What every run ends with. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, for any float values, every run of the program on the sixteen devices
    terminates; each array then holds what the bodies leave in it, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- An argument's array holds what it held. -/
theorem finalA_in (c : Dev nD) (w : Fin 4) : finalA m ρ c w.castSucc = (s₀ m ρ).mem ((cfg0.win w.castSucc).arr.view.loc (c : Thread nD τ)) :=
  (dats (F := F) m ρ 0 c).arrAt_in w.castSucc (by fin_cases w <;> rfl) _

/-- The result array holds what the body left in its staged block. -/
theorem finalA_out (c : Dev nD) : finalA m ρ c (4 : Fin 5) = outAt m ρ c := by
  have ho : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hz : (fun a => (win0_4.index (0 : Fin 1)) a * main_v1.ty.shape.size a) = fun _ => 0 :=
    funext fun a => by fin_cases a <;> decide
  exact (Memref.read_access_unit_zero (Elt F) main_v1 hz (fun a => by fin_cases a <;> decide) _).symm.trans ho

/-- Every run terminates; each device's result is what its body computes, the arguments are as they were and every
    counter is at zero. -/
theorem run_values : θ_run defs (onTc (τ := τ) (main (F := F))) (s₀ m ρ) (fun r => (∀ c : Dev nD,
    r.2.mem ((c : Thread nD τ).loc main_v1) = outAt m ρ c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
    ∧ r.2.sem = fun _ => 0) :=
  (θ_run defs _ _).mono (fun _ h => ⟨fun c => ⟨(h.1 c (4 : Fin 5)).trans (finalA_out m ρ c), (h.1 c (0 : Fin 5)).trans (finalA_in m ρ c 0),
    (h.1 c (1 : Fin 5)).trans (finalA_in m ρ c 1), (h.1 c (2 : Fin 5)).trans (finalA_in m ρ c 2), (h.1 c (3 : Fin 5)).trans (finalA_in m ρ c 3)⟩, h.2⟩)
    (run_main m ρ)

end Cert.KernelIdeal.Proof
-- ==== Proof.Frames.lean ====
module

public import proofs.«01_k».proof.Defs
public import proofs.«01_k».proof.Proof.Gen.Kernel
public import proofs.«01_k».proof.Proof.Launch

/-! The two frames of the kernel, from one run. -/

@[expose] public section

noncomputable section

namespace Cert.KernelIdeal.Proof

open Idealize.ShloMosaic Idealize.SL.Sem

variable {F : FTy → Type} [FloatOps F]

set_option maxRecDepth 65536 in
set_option maxHeartbeats 1000000 in
/-- The two printed programs run one body, -/
theorem body_same : @Cert.Kernel.cc0_body F _ Cert.Kernel.Gen.facts = @Cert.KernelIdeal.cc0_body F _ Cert.KernelIdeal.Gen.facts := rfl

/-- on the same staged arrays, -/
theorem defs₀_same : @Cert.Kernel.defs₀ F _ Cert.Kernel.Gen.facts = @Cert.KernelIdeal.defs₀ F _ Cert.KernelIdeal.Gen.facts :=
  congrArg Defs.onTc (funext fun l => funext fun a => by
    fin_cases l
    obtain ⟨t, s⟩ := a
    show @Cert.Kernel.cc0_body F _ Cert.Kernel.Gen.facts _ _ _ _ _ _ _ _ _ _ _ _ _ _ _ _ _ _ _ _ = _
    rw [body_same])

/-- under the same pipeline. -/
theorem defs_same : @Cert.Kernel.defs F _ Cert.Kernel.Gen.facts = @Cert.KernelIdeal.defs F _ Cert.KernelIdeal.Gen.facts :=
  congrArg (Pipeline.defs Cert.KernelIdeal.pcfgs) defs₀_same

/-- The kernel's frame: the run is stated for any float values, and both programs have one text. -/
theorem frame_kernel : Cert.quiescent_Kernel := fun m ρ _ =>
  have run : ∀ D, D = Cert.KernelIdeal.defs (F := Bits) → θ_run D (onTc (τ := Cert.KernelIdeal.τ) (Cert.KernelIdeal.main (F := Bits))) (s₀ m ρ) _ := by
    rintro _ rfl
    exact (θ_run Cert.KernelIdeal.defs _ _).mono (fun _ h => ⟨fun c => (h.1 c).2, h.2⟩) (run_values (F := Bits) m ρ)
  run _ defs_same

/-- The same at exact values. -/
theorem frame_kernelIdeal : Cert.quiescent_KernelIdeal := fun m ρ _ =>
  (θ_run Cert.KernelIdeal.defs _ _).mono (fun _ h => ⟨fun c => (h.1 c).2, h.2⟩) (run_values (F := Ideal) m ρ)

end Cert.KernelIdeal.Proof
-- ==== Proof.Sums.lean ====
module

public import Idealize.ShloMosaic.PureOps.Ideal.Laws
public import Idealize.ShloMosaic.Lib.ValueIdx

/-! Sums over blocks and the activation, over the extended reals. -/

@[expose] public section

noncomputable section

namespace Cert.KernelIdeal.Proof

open Idealize.ShloMosaic

/-- Position `t` of block `i`, of `n` blocks of length `b`, is one of the `n * b` positions. -/
theorem lt_blocks {n b N : ℕ} (h : n * b = N) (i : Fin n) (t : Fin b) : b * i.val + t.val < N := by
  have h1 : b * i.val + t.val < b * (i.val + 1) := by rw [Nat.mul_succ]; exact Nat.add_lt_add_left t.isLt _
  have h2 : b * (i.val + 1) ≤ b * n := Nat.mul_le_mul_left b i.isLt
  rw [← h, Nat.mul_comm n b]; exact lt_of_lt_of_le h1 h2

/-- A sum over `n * b` positions is the sum over the `n` blocks of the sums over a block's `b` positions. -/
theorem sum_blocks {M : Type*} [AddCommMonoid M] {n b N : ℕ} (h : n * b = N) (f : Fin N → M) :
    ∑ k, f k = ∑ i : Fin n, ∑ t : Fin b, f ⟨b * i.val + t.val, lt_blocks h i t⟩ := by
  subst h
  rw [← Equiv.sum_comp finProdFinEquiv, Fintype.sum_prod_type]
  exact Finset.sum_congr rfl fun i _ => Finset.sum_congr rfl fun t _ => congrArg f (Fin.ext (Nat.add_comm _ _))

/-- A sum accumulated in turns from two sources is the one's sum and the other's. -/
theorem sum_turns (f g : Fin 4 → EReal) : (f 0 + g 0 + f 1 + g 1 + f 2 + g 2) + f 3 + g 3 = ∑ i, f i + ∑ i, g i := by
  rw [Fin.sum_univ_four, Fin.sum_univ_four]; ac_rfl

/-- The activation: `y / (1 + exp (-y))`. -/
def silu (y : EReal) : EReal := Ideal.div y (1 + Ideal.exp (0 - y))

/-- An exponential is at least zero. -/
theorem exp_nonneg (y : EReal) : 0 ≤ Ideal.exp y := by
  induction y using EReal.rec with
  | bot => exact le_refl _
  | top => exact le_top
  | coe r => exact EReal.coe_nonneg.mpr (Real.exp_pos r).le

/-- The divisor of the activation is not zero. -/
theorem den_ne_zero (y : EReal) : 1 + Ideal.exp y ≠ 0 := by
  have h : (1 : EReal) ≤ 1 + Ideal.exp y := le_add_of_nonneg_right (exp_nonneg y)
  exact (lt_of_lt_of_le zero_lt_one h).ne'

/-- The activation by a product with the reciprocal of its divisor. -/
theorem mul_recip (y : EReal) : y * Ideal.div 1 (1 + Ideal.exp (0 - y)) = silu y := by
  unfold silu Ideal.div
  rw [if_neg (den_ne_zero _), if_neg (den_ne_zero _), one_mul]

end Cert.KernelIdeal.Proof

end
-- ==== Proof.Block.lean ====
module

public import proofs.«01_k».proof.Proof.Products
public import proofs.«01_k».proof.Proof.Sums
public import Idealize.ShloMosaic.Lib.MatmulPlain
public import Idealize.ShloMosaic.Lib.IdealHost
public import Idealize.ShloMosaic.Lib.Pipeline.Value

/-! What one panel of the result is, entry by entry, over the extended reals: the activation of the scaled sum of the
    two directions' products. -/

@[expose] public section

noncomputable section

namespace Cert.KernelIdeal.Proof

open Cert.KernelIdeal Cert.KernelIdeal.Gen
open Idealize.ShloMosaic Idealize.ShloMosaic.ValueIdx

/-- A product of a panel's columns by a group's rows, entry by entry. -/
theorem mm_at (a : FVec Ideal S256x512 .fp8e4m3) (b : FVec Ideal S512x2048 .fp8e5m2) (r : Fin 256) (j : Fin 2048) :
    matmul dot_S256x512_S512x2048_S256x2048_1_0_0_1_n_n none a b (constant (F := Ideal) S256x2048 .f32 0x00000000#32) (ix2 r j)
      = ∑ k : Fin 512, a (ix2 r k) * b (ix2 k j) := by
  have h := Ideal.matmul_plain_apply none a b (constant (F := Ideal) S256x2048 .f32 0x00000000#32) r j
  rw [constant_apply, Ideal.ofBits_zero_f32, zero_add] at h
  exact h

/-- The first group's panel, entry by entry. -/
theorem pay9_at (a a' : FVec Ideal S256x512 .fp8e4m3) (b b' : FVec Ideal S512x2048 .fp8e5m2) (r : Fin 256) (j : Fin 2048) :
    k0_pay9 (F := Ideal) a b a' b' (ix2 r j) = ∑ k : Fin 512, a (ix2 r k) * b (ix2 k j) + ∑ k : Fin 512, a' (ix2 r k) * b' (ix2 k j) := by
  rw [← mm_at, ← mm_at]; rfl

/-- A middle group's panel, entry by entry, on top of what is there. -/
theorem pay13_at (a a' : FVec Ideal S256x512 .fp8e4m3) (b b' : FVec Ideal S512x2048 .fp8e5m2) (v : FVec Ideal S256x2048 .f32) (r : Fin 256) (j : Fin 2048) :
    k0_pay13 (F := Ideal) a b a' b' v (ix2 r j)
      = v (ix2 r j) + ∑ k : Fin 512, a (ix2 r k) * b (ix2 k j) + ∑ k : Fin 512, a' (ix2 r k) * b' (ix2 k j) := by
  rw [← mm_at, ← mm_at]
  unfold k0_pay13
  rw [shapeCast_self]; rfl

/-- The last group's panel, entry by entry: the sum, scaled, through the activation. -/
theorem pay1_at (s : Ideal .f32) (a a' : FVec Ideal S256x512 .fp8e4m3) (b b' : FVec Ideal S512x2048 .fp8e5m2) (v : FVec Ideal S256x2048 .f32)
    (r : Fin 256) (j : Fin 2048) :
    k0_pay1 (F := Ideal) s a b a' b' v (ix2 r j)
      = silu ((v (ix2 r j) + ∑ k : Fin 512, a (ix2 r k) * b (ix2 k j) + ∑ k : Fin 512, a' (ix2 r k) * b' (ix2 k j)) * s) := by
  rw [← mm_at, ← mm_at, ← mul_recip, ← Ideal.ofBits_zero_f32, ← Ideal.ofBits_one_f32]
  unfold k0_pay1
  rw [shapeCast_self]; rfl

/-- An entry of a panel's columns of group `g`. -/
theorem acol_at (g : Fin 4) (p : Fin 16) (x : FVec Ideal S4096x2048 .fp8e4m3) (r : Fin 256) (k : Fin 512) :
    acol (F := Ideal) g p x (ix2 r k) = x (ix2 ⟨256 * p.val + r.val, lt_blocks rfl p r⟩ ⟨512 * g.val + k.val, lt_blocks rfl g k⟩) :=
  congrArg x (funext fun a => Fin.ext (by
    fin_cases a
    · show 256 * p.val + 1 * r.val = _; rw [Nat.one_mul]
    · show 512 * g.val + 1 * k.val = _; rw [Nat.one_mul]))

/-- An entry of the rows of group `g`. -/
theorem brow_at (g : Fin 4) (w : FVec Ideal S2048x2048 .fp8e5m2) (k : Fin 512) (j : Fin 2048) :
    brow (F := Ideal) g w (ix2 k j) = w (ix2 ⟨512 * g.val + k.val, lt_blocks rfl g k⟩ j) :=
  congrArg w (funext fun a => Fin.ext (by
    fin_cases a
    · show 512 * g.val + 1 * k.val = _; rw [Nat.one_mul]
    · show 0 + 1 * j.val = _; rw [Nat.one_mul, Nat.zero_add]))

/-- The product of row `i` of one direction's columns by column `j` of its rows. -/
def dirSum (x : FVec Ideal S4096x2048 .fp8e4m3) (w : FVec Ideal S2048x2048 .fp8e5m2) (i : Fin 4096) (j : Fin 2048) : EReal :=
  ∑ q : Fin 2048, x (ix2 i q) * w (ix2 q j)

/-- A direction's product, group by group. -/
theorem dirSum_groups (p : Fin 16) (x : FVec Ideal S4096x2048 .fp8e4m3) (w : FVec Ideal S2048x2048 .fp8e5m2) (r : Fin 256) (j : Fin 2048) :
    ∑ g : Fin 4, ∑ k : Fin 512, acol (F := Ideal) g p x (ix2 r k) * brow (F := Ideal) g w (ix2 k j) = dirSum x w ⟨256 * p.val + r.val, lt_blocks rfl p r⟩ j := by
  unfold dirSum
  rw [sum_blocks (n := 4) (b := 512) rfl]
  exact Finset.sum_congr rfl fun g _ => Finset.sum_congr rfl fun k _ => by rw [acol_at, brow_at]

/-- An entry of a panel of the result. -/
theorem panelOut_at (x0 x1 : FVec Ideal S4096x2048 .fp8e4m3) (w0 w1 : FVec Ideal S2048x2048 .fp8e5m2) (s : Ideal .f32) (p : Fin 16) (r : Fin 256) (j : Fin 2048) :
    panelOut (F := Ideal) x0 w0 x1 w1 s p (ix2 r j)
      = silu ((dirSum x0 w0 ⟨256 * p.val + r.val, lt_blocks rfl p r⟩ j + dirSum x1 w1 ⟨256 * p.val + r.val, lt_blocks rfl p r⟩ j) * s) := by
  unfold panelOut val3 valN val0
  rw [pay1_at, pay13_at, pay13_at, pay9_at, ← dirSum_groups, ← dirSum_groups, ← sum_turns]

/-- An entry of the result, whatever the four gathered buffers hold. -/
theorem pall_panelOut_at (x0 x1 : FVec Ideal S4096x2048 .fp8e4m3) (w0 w1 : FVec Ideal S2048x2048 .fp8e5m2) (s : Ideal .f32) (i : S4096x2048.Idx) :
    pall (panelOut (F := Ideal) x0 w0 x1 w1 s) i = silu ((dirSum x0 w0 (i 0) (i 1) + dirSum x1 w1 (i 0) (i 1)) * s) := by
  have hi : (i 0).val < 4096 := (i 0).isLt
  obtain ⟨p, j, rfl⟩ : ∃ p, ∃ j, (pr p).emb j = i :=
    ⟨⟨(i 0).val / 256, by omega⟩, mem_pr _ i (by show 256 * ((i 0).val / 256) ≤ _; omega) (by show _ < 256 * ((i 0).val / 256 + 1); omega)⟩
  obtain ⟨r, l, rfl⟩ : ∃ (r : Fin 256) (l : Fin 2048), j = ix2 r l := ⟨j 0, j 1, eq_ix2 j⟩
  have e0 : (⟨256 * p.val + r.val, lt_blocks rfl p r⟩ : Fin 4096) = ((pr p).emb (ix2 r l)) 0 := Fin.ext (pr_emb0 p (ix2 r l)).symm
  have e1 : l = ((pr p).emb (ix2 r l)) 1 := Fin.ext (pr_emb1 p (ix2 r l)).symm
  refine (congrFun (pan_pall (panelOut (F := Ideal) x0 w0 x1 w1 s) p) (ix2 r l)).trans ?_
  rw [panelOut_at, e0]
  exact congrArg (fun q => silu ((dirSum x0 w0 _ q + dirSum x1 w1 _ q) * s)) e1

end Cert.KernelIdeal.Proof

end
-- ==== Proof.Result.lean ====
module

public import proofs.«01_k».proof.Proof.Block
public import proofs.«01_k».proof.Proof.Launch
public import Idealize.ShloMosaic.Lib.Layout

/-! What a device's result holds, over the extended reals, where the devices' arguments are the blocks of two whole
    arrays: the activation of the scaled product of a row of the one by a column of the other. -/

@[expose] public section

noncomputable section

namespace Cert.KernelIdeal.Proof

open Cert.KernelIdeal Cert.KernelIdeal.Gen
open Idealize.ShloMosaic Idealize.ShloMosaic.TcCoe Idealize.ShloMosaic.ValueIdx

/-- Where the blocks of the right-moving lanes come from: the devices, each once. -/
theorem org_right_sum (c : Dev nD) (f : Fin 16 → EReal) : ∑ s : Fin 16, f (org 0 c s) = ∑ d, f d := by
  refine Function.Bijective.sum_comp (Finite.injective_iff_bijective.mp fun s s' h => ?_) f
  have hs := s.isLt; have hs' := s'.isLt; have hc : c.val < 16 := c.isLt
  have h' : (c.val + 16 - s.val) % 16 = (c.val + 16 - s'.val) % 16 := congrArg Fin.val h
  exact Fin.ext (by omega)

/-- The same of the left-moving lanes. -/
theorem org_left_sum (c : Dev nD) (f : Fin 16 → EReal) : ∑ s : Fin 16, f (org 2 c s) = ∑ d, f d := by
  refine Function.Bijective.sum_comp (Finite.injective_iff_bijective.mp fun s s' h => ?_) f
  have hs := s.isLt; have hs' := s'.isLt; have hc : c.val < 16 := c.isLt
  have h' : (c.val + s.val) % 16 = (c.val + s'.val) % 16 := congrArg Fin.val h
  exact Fin.ext (by omega)

/-- An entry of sixteen blocks of columns side by side. -/
theorem xall_at (B : Fin 16 → Vec Ideal S4096x128 .fp8e4m3) (i : Fin 4096) (s : Fin 16) (t : Fin 128) :
    xall B (ix2 i ⟨128 * s.val + t.val, lt_blocks rfl s t⟩) = B s (ix2 i t) := by
  refine Eq.trans (congrArg (xall B) (funext fun a => Fin.ext ?_)) (congrFun (xall_emb B s) (ix2 i t))
  fin_cases a
  · show i.val = 0 + 1 * i.val; omega
  · show 128 * s.val + t.val = 128 * s.val + 1 * t.val; omega

/-- An entry of sixteen blocks of rows one below another. -/
theorem wall_at (B : Fin 16 → Vec Ideal S128x2048 .fp8e5m2) (s : Fin 16) (t : Fin 128) (j : Fin 2048) :
    wall B (ix2 ⟨128 * s.val + t.val, lt_blocks rfl s t⟩ j) = B s (ix2 t j) := by
  refine Eq.trans (congrArg (wall B) (funext fun a => Fin.ext ?_)) (congrFun (wall_emb B s) (ix2 t j))
  fin_cases a
  · show 128 * s.val + t.val = 128 * s.val + 1 * t.val; omega
  · show j.val = 0 + 1 * j.val; omega

/-- A direction's product is the sum over the sixteen slots of the products of the blocks in them. -/
theorem dirSum_slots (B : Fin 16 → Vec Ideal S4096x128 .fp8e4m3) (C : Fin 16 → Vec Ideal S128x2048 .fp8e5m2) (i : Fin 4096) (j : Fin 2048) :
    dirSum (xall B) (wall C) i j = ∑ s : Fin 16, ∑ t : Fin 128, (B s (ix2 i t) : EReal) * (C s (ix2 t j) : EReal) := by
  unfold dirSum
  rw [sum_blocks (n := 16) (b := 128) rfl]
  exact Finset.sum_congr rfl fun s _ => Finset.sum_congr rfl fun t _ => congrArg₂ (fun a b : EReal => a * b) (xall_at B i s t) (wall_at C s t j)

variable (m : (ℓ : Loc nD τ sig) → Buf (Elt Ideal) ℓ) (ρ : Dev nD → PrngReg)

/-- The offsets of a staged argument's only block. -/
theorem in_off0 : (fun a => (win0_0.index (0 : Fin 1)) a * main_arg0.ty.shape.size a) = fun _ => 0 := funext fun a => by fin_cases a <;> decide
/-- The staged block of `w` starts at the origin of the device's argument. -/
theorem in_off1 : (fun a => (win0_1.index (0 : Fin 1)) a * main_arg1.ty.shape.size a) = fun _ => 0 := funext fun a => by fin_cases a <;> decide
/-- The staged scale of `x` starts at the origin of the device's argument. -/
theorem in_off2 : (fun a => (win0_2.index (0 : Fin 1)) a * main_arg2.ty.shape.size a) = fun _ => 0 := funext fun a => by fin_cases a <;> decide
/-- The staged scale of `w` starts at the origin of the device's argument. -/
theorem in_off3 : (fun a => (win0_3.index (0 : Fin 1)) a * main_arg3.ty.shape.size a) = fun _ => 0 := funext fun a => by fin_cases a <;> decide

/-- A staged argument is the whole of it. -/
theorem xst_eq (c : Dev nD) : xst m ρ c = m ((c : Thread nD τ).loc main_arg0) :=
  Memref.read_access_unit_zero (Elt Ideal) main_arg0 in_off0 (fun a => by fin_cases a <;> decide) _
/-- The staged block of `w` is the device's second argument. -/
theorem wst_eq (c : Dev nD) : wst m ρ c = m ((c : Thread nD τ).loc main_arg1) :=
  Memref.read_access_unit_zero (Elt Ideal) main_arg1 in_off1 (fun a => by fin_cases a <;> decide) _
/-- The staged scale of `x` is the device's third argument. -/
theorem sxst_eq (c : Dev nD) : sxst m ρ c = m ((c : Thread nD τ).loc main_arg2) :=
  Memref.read_access_unit_zero (Elt Ideal) main_arg2 in_off2 (fun a => by fin_cases a <;> decide) _
/-- The staged scale of `w` is the device's fourth argument. -/
theorem swst_eq (c : Dev nD) : swst m ρ c = m ((c : Thread nD τ).loc main_arg3) :=
  Memref.read_access_unit_zero (Elt Ideal) main_arg3 in_off3 (fun a => by fin_cases a <;> decide) _

/-- Position `t` of the half from `o` of a device's 256. -/
abbrev inBlk (o : ℕ) (ho : o + 128 ≤ 256) (t : Fin 128) : Fin 256 := ⟨o + t.val, by omega⟩

/-- Sixteen blocks of columns are the whole `x`; sixteen blocks of rows the whole `w`. -/
theorem x_tiles : Layout.Tiles ⟨2, ![4096, 256]⟩ ⟨2, ![4096, 4096]⟩ 1 16 := by decide
/-- The rows of `w` are cut into sixteen blocks of 256. -/
theorem w_tiles : Layout.Tiles ⟨2, ![256, 2048]⟩ ⟨2, ![4096, 2048]⟩ 0 16 := by decide

section Blocks

variable (x : Vec Ideal ⟨2, ![4096, 4096]⟩ .fp8e4m3) (w : Vec Ideal ⟨2, ![4096, 2048]⟩ .fp8e5m2)
variable (hx : ∀ c : Dev nD, m ((c : Thread nD τ).loc main_arg0) = Layout.block ⟨2, ![4096, 256]⟩ ⟨2, ![4096, 4096]⟩ 1 16 c x x_tiles)
variable (hw : ∀ c : Dev nD, m ((c : Thread nD τ).loc main_arg1) = Layout.block ⟨2, ![256, 2048]⟩ ⟨2, ![4096, 2048]⟩ 0 16 c w w_tiles)

include hx in
/-- An entry of a half of a device's columns, in the whole `x`. -/
theorem xblk_at (o : ℕ) (h : o + 128 ≤ 256) (ho : ∀ a, (![0, o] : Fin 2 → Nat) a + S4096x128.size a ≤ S4096x256.size a) (d : Dev nD) (i : Fin 4096) (t : Fin 128) :
    xblk m ρ o ho d (ix2 i t) = x (ix2 i ⟨256 * d.val + (o + t.val), lt_blocks (n := 16) (b := 256) rfl d (inBlk o h t)⟩) := by
  unfold xblk k0_pay3
  rw [shapeCast_self, shapeCast_self, xst_eq, hx d]
  refine congrArg x (funext fun a => Fin.ext ?_)
  fin_cases a
  · show 0 + 1 * i.val = i.val; omega
  · show d.val * 256 + (o + 1 * t.val) = 256 * d.val + (o + t.val); omega

include hw in
/-- An entry of a half of a device's rows, in the whole `w`. -/
theorem wblk_at (o : ℕ) (h : o + 128 ≤ 256) (ho : ∀ a, (![o, 0] : Fin 2 → Nat) a + S128x2048.size a ≤ S256x2048.size a) (d : Dev nD) (t : Fin 128) (j : Fin 2048) :
    wblk m ρ o ho d (ix2 t j) = w (ix2 ⟨256 * d.val + (o + t.val), lt_blocks (n := 16) (b := 256) rfl d (inBlk o h t)⟩ j) := by
  unfold wblk k0_pay7
  rw [shapeCast_self, shapeCast_self, wst_eq, hw d]
  refine congrArg w (funext fun a => Fin.ext ?_)
  fin_cases a
  · show d.val * 256 + (o + 1 * t.val) = 256 * d.val + (o + t.val); omega
  · show 0 + 1 * j.val = j.val; omega

/-- Device `d`'s share of an entry of the product, from the half from `o` of its columns and rows. -/
def share (i : Fin 4096) (j : Fin 2048) (o : ℕ) (h : o + 128 ≤ 256) (d : Fin 16) : EReal :=
  ∑ t : Fin 128, (x (ix2 i ⟨256 * d.val + (o + t.val), lt_blocks (n := 16) (b := 256) rfl d (inBlk o h t)⟩) : EReal)
    * (w (ix2 ⟨256 * d.val + (o + t.val), lt_blocks (n := 16) (b := 256) rfl d (inBlk o h t)⟩ j) : EReal)

include hx hw in
/-- What gathered to the right gives the first halves' shares, whichever device gathered; -/
theorem right_sum (c : Dev nD) (i : Fin 4096) (j : Fin 2048) :
    dirSum (full0 m ρ c) (full1 m ρ c) i j = ∑ d, share x w i j 0 (by decide) d := by
  refine (dirSum_slots (fun s => blk m ρ 0 (org 0 c s)) (fun s => blk m ρ 1 (org 1 c s)) i j).trans ?_
  refine Eq.trans ?_ (org_right_sum c (share x w i j 0 (by decide)))
  exact Finset.sum_congr rfl fun s _ => Finset.sum_congr rfl fun t _ =>
    congrArg₂ (fun a b : EReal => a * b) (xblk_at m ρ x hx 0 (by decide) _ (org 0 c s) i t) (wblk_at m ρ w hw 0 (by decide) _ (org 0 c s) t j)

include hx hw in
/-- what gathered to the left gives the second halves'. -/
theorem left_sum (c : Dev nD) (i : Fin 4096) (j : Fin 2048) :
    dirSum (full2 m ρ c) (full3 m ρ c) i j = ∑ d, share x w i j 128 (by decide) d := by
  refine (dirSum_slots (fun s => blk m ρ 2 (org 2 c s)) (fun s => blk m ρ 3 (org 3 c s)) i j).trans ?_
  refine Eq.trans ?_ (org_left_sum c (share x w i j 128 (by decide)))
  exact Finset.sum_congr rfl fun s _ => Finset.sum_congr rfl fun t _ =>
    congrArg₂ (fun a b : EReal => a * b) (xblk_at m ρ x hx 128 (by decide) _ (org 2 c s) i t) (wblk_at m ρ w hw 128 (by decide) _ (org 2 c s) t j)

/-- The two halves' shares of all devices are the whole product's entry. -/
theorem shares_sum (i : Fin 4096) (j : Fin 2048) :
    ∑ d, share x w i j 0 (by decide) d + ∑ d, share x w i j 128 (by decide) d
      = ∑ k : Fin 4096, (x (ix2 i k) : EReal) * (w (ix2 k j) : EReal) := by
  rw [sum_blocks (n := 16) (b := 256) rfl, ← Finset.sum_add_distrib]
  refine Finset.sum_congr rfl fun d _ => ?_
  rw [sum_blocks (n := 2) (b := 128) (N := 256) rfl, Fin.sum_univ_two]
  rfl

include hx hw in
/-- A device's result, entry by entry: the same on every device. -/
theorem outAt_at (c : Dev nD) (i : Fin 4096) (j : Fin 2048) :
    outAt m ρ c (ix2 i j)
      = silu ((∑ k : Fin 4096, (x (ix2 i k) : EReal) * (w (ix2 k j) : EReal))
          * (scal (m ((c : Thread nD τ).loc main_arg2)) * scal (m ((c : Thread nD τ).loc main_arg3)) : EReal)) := by
  unfold outAt
  refine (pall_panelOut_at _ _ _ _ _ _).trans ?_
  rw [← shares_sum, ← right_sum m ρ x w hx hw c, ← left_sum m ρ x w hx hw c, ← sxst_eq m ρ c, ← swst_eq m ρ c]
  rfl

end Blocks

end Cert.KernelIdeal.Proof

end
-- ==== Proof.RefValue.lean ====
module

public import proofs.«01_k».proof.Proof.Gen.ReferenceIdeal.Value
public import proofs.«01_k».proof.Proof.Sums
public import Idealize.ShloMosaic.Lib.MatmulPlain
public import Idealize.ShloMosaic.Lib.IdealHost

/-! What the reference computes: one function of the four whole arrays, and over the extended reals its entries. -/

@[expose] public section

noncomputable section

namespace Cert.ReferenceIdeal.Proof

open Cert.ReferenceIdeal Cert.ReferenceIdeal.Gen Cert.ReferenceIdeal.Value
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The reference's result from its four arguments. -/
def result (x : Vec F S4096x4096 .fp8e4m3) (w : Vec F S4096x2048 .fp8e5m2) (sx sw : Vec F S1 .f32) : Vec F S4096x2048 .f32 :=
  k0_pay1 x w (sx (Shape.Idx.first (by decide))) (sw (Shape.Idx.first (by decide)))

/-- The offsets of a rectangle that starts at the origin. -/
theorem zero2 : (![0, 0] : Fin 2 → Nat) = fun _ => 0 := funext fun a => by fin_cases a <;> rfl
/-- The zero offset of an array of one axis. -/
theorem zero1 : (![0] : Fin 1 → Nat) = fun _ => 0 := funext fun a => by fin_cases a; rfl

/-- What the body leaves in the result's staged array. -/
theorem out_result (c : Dev nD) (a0 : Memref sig .tc .vmem S4096x4096 .fp8e4m3) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : Vec F S4096x4096 .fp8e4m3) (w : Vec F S4096x2048 .fp8e5m2) (sx sw : Vec F S1 .f32) :
    out0_A_4 c a0 h0 a1 h1 a2 h2 a3 h3 a4 h4 x w sx sw = result x w sx sw := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) (Shape.Idx.first (by decide)))
        (View.readAt (Elt F) a3.view (Rect.unit (s := S1) ![0] S1.size inb_S1_S1_0).toLoadRect (h3.unread sw) (Shape.Idx.first (by decide)))⟩] :
      List (View.Piece (Elt F) S4096x2048 .f32)) = _
  rw [View.canon_unit_zero zero2, View.readAt_eq_ld, View.readAt_eq_ld, View.readAt_eq_ld, View.readAt_eq_ld,
    h0.read_unread, h1.read_unread, h2.read_unread, h3.read_unread,
    View.ld_unit_zero zero2, View.ld_unit_zero zero2, View.ld_unit_zero zero1, View.ld_unit_zero zero1]
  rfl

/-- An index map of a call without a grid is zero on every axis. -/
theorem off0 (t : Fin cfg0.N) : (fun a => (win0_0.index t) a * main_arg0.ty.shape.size a) = fun _ => 0 := by
  fin_cases t; exact funext fun a => by fin_cases a <;> decide
/-- The staged block of `w` starts at the array's origin. -/
theorem off1 (t : Fin cfg0.N) : (fun a => (win0_1.index t) a * main_arg1.ty.shape.size a) = fun _ => 0 := by
  fin_cases t; exact funext fun a => by fin_cases a <;> decide
/-- The staged block of the scale of `x` starts at the array's origin. -/
theorem off2 (t : Fin cfg0.N) : (fun a => (win0_2.index t) a * main_arg2.ty.shape.size a) = fun _ => 0 := by
  fin_cases t; exact funext fun a => by fin_cases a <;> decide
/-- The staged block of the scale of `w` starts at the array's origin. -/
theorem off3 (t : Fin cfg0.N) : (fun a => (win0_3.index t) a * main_arg3.ty.shape.size a) = fun _ => 0 := by
  fin_cases t; exact funext fun a => by fin_cases a <;> decide
/-- The staged block of the result starts at the array's origin. -/
theorem off4 (t : Fin cfg0.N) : (fun a => (win0_4.index t) a * main_v0.ty.shape.size a) = fun _ => 0 := by
  fin_cases t; exact funext fun a => by fin_cases a <;> decide

/-- A staged argument is the whole of it. -/
theorem block0 (c : Dev nD) (t : Fin cfg0.N) : iblk m c 0 t = m ((c : Thread nD τ).loc main_arg0) :=
  (Memref.read_access_unit_zero (Elt F) main_arg0 (off0 t) (fun a => by fin_cases t; fin_cases a <;> decide) _).trans (V_main_arg0 m c)
/-- The second staged array is the whole of `w`. -/
theorem block1 (c : Dev nD) (t : Fin cfg0.N) : iblk m c 1 t = m ((c : Thread nD τ).loc main_arg1) :=
  (Memref.read_access_unit_zero (Elt F) main_arg1 (off1 t) (fun a => by fin_cases t; fin_cases a <;> decide) _).trans (V_main_arg1 m c)
/-- The third staged array is the scale of `x`. -/
theorem block2 (c : Dev nD) (t : Fin cfg0.N) : iblk m c 2 t = m ((c : Thread nD τ).loc main_arg2) :=
  (Memref.read_access_unit_zero (Elt F) main_arg2 (off2 t) (fun a => by fin_cases t; fin_cases a <;> decide) _).trans (V_main_arg2 m c)
/-- The fourth staged array is the scale of `w`. -/
theorem block3 (c : Dev nD) (t : Fin cfg0.N) : iblk m c 3 t = m ((c : Thread nD τ).loc main_arg3) :=
  (Memref.read_access_unit_zero (Elt F) main_arg3 (off3 t) (fun a => by fin_cases t; fin_cases a <;> decide) _).trans (V_main_arg3 m c)

/-- The result array after the run. -/
theorem final (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  refine (Memref.read_access_unit_zero (Elt F) main_v0 (off4 (⟨0, by decide⟩ : Fin cfg0.N)) (fun a => by fin_cases a <;> decide) _).symm.trans ?_
  refine (blocks4 m c (⟨0, by decide⟩ : Fin cfg0.N) (flush0_4 _)).trans ?_
  rw [flushed4_A, out_result, block0, block1, block2, block3]
  rfl

/-- The reference's run: its result is `result` of its arguments, which stay as they were. -/
theorem run : θ_run defs (onTc (τ := τ) (main (F := F))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

/-- An entry of the reference's result: the activation of the scaled product of a row of `x` by a column of `w`. -/
theorem result_at (x : FVec Ideal S4096x4096 .fp8e4m3) (w : FVec Ideal S4096x2048 .fp8e5m2) (sx sw : FVec Ideal S1 .f32) (i : Fin 4096) (j : Fin 2048) :
    result (F := Ideal) x w sx sw (ix2 i j)
      = Cert.KernelIdeal.Proof.silu ((∑ k : Fin 4096, x (ix2 i k) * w (ix2 k j)) * (sx (Shape.Idx.first (by decide)) * sw (Shape.Idx.first (by decide)))) := by
  have h := Ideal.matmul_plain_apply none x w (constant (F := Ideal) S4096x2048 .f32 0x00000000#32) i j
  rw [constant_apply, Ideal.ofBits_zero_f32, zero_add] at h
  rw [← h]
  unfold Cert.KernelIdeal.Proof.silu
  rw [← Ideal.ofBits_zero_f32, ← Ideal.ofBits_one_f32]
  rfl

end Cert.ReferenceIdeal.Proof

end
-- ==== Proof.Equation.lean ====
module

public import proofs.«01_k».proof.Defs
public import proofs.«01_k».proof.Proof.Result
public import proofs.«01_k».proof.Proof.RefValue

/-! The equation: over the extended reals every device's result is the reference's. -/

@[expose] public section

noncomputable section

namespace Cert.KernelIdeal.Proof

open Cert.KernelIdeal Cert.KernelIdeal.Gen
open Idealize.ShloMosaic Idealize.ShloMosaic.TcCoe Idealize.SL.Sem Idealize.ShloMosaic.ValueIdx

/-- Where the devices' arguments are the blocks of `x` and of `w` and, on every device, the scales `sx` and `sw`, each
    device's result is the reference's of `x`, `w`, `sx` and `sw`. -/
theorem outAt_result (m : (ℓ : Loc nD τ sig) → Buf (Elt Ideal) ℓ) (ρ : Dev nD → PrngReg)
    (x : Vec Ideal ⟨2, ![4096, 4096]⟩ .fp8e4m3) (w : Vec Ideal ⟨2, ![4096, 2048]⟩ .fp8e5m2) (sx sw : Vec Ideal S1 .f32)
    (hx : ∀ c : Dev nD, m ((c : Thread nD τ).loc main_arg0) = Layout.block ⟨2, ![4096, 256]⟩ ⟨2, ![4096, 4096]⟩ 1 16 c x x_tiles)
    (hw : ∀ c : Dev nD, m ((c : Thread nD τ).loc main_arg1) = Layout.block ⟨2, ![256, 2048]⟩ ⟨2, ![4096, 2048]⟩ 0 16 c w w_tiles)
    (hsx : ∀ c : Dev nD, m ((c : Thread nD τ).loc main_arg2) = sx) (hsw : ∀ c : Dev nD, m ((c : Thread nD τ).loc main_arg3) = sw) (c : Dev nD) :
    outAt m ρ c = Cert.ReferenceIdeal.Proof.result (F := Ideal) x w sx sw := by
  refine funext fun (i : S4096x2048.Idx) => ?_
  obtain ⟨r, j, rfl⟩ : ∃ (r : Fin 4096) (j : Fin 2048), i = ix2 r j := ⟨i 0, i 1, eq_ix2 i⟩
  refine (outAt_at m ρ x w hx hw c r j).trans ?_
  rw [hsx c, hsw c]
  exact (Cert.ReferenceIdeal.Proof.result_at x w sx sw r j).symm

/-- The kernel and the reference compute the same, over the extended reals. -/
theorem algebraic : Cert.algebraic_KernelIdeal_ReferenceIdeal := by
  intro m g m' g' _ h
  refine ⟨_, (θ_run defs _ _).mono (fun r hr c => ⟨(hr.1 c).1.trans
      (outAt_result m g _ _ _ _ (fun c => (h c).1) (fun c => (h c).2.1) (fun c => (h c).2.2.1) (fun c => (h c).2.2.2) c), (hr.1 c).2⟩) (run_values m g), ?_⟩
  exact (θ_run Cert.ReferenceIdeal.defs _ _).mono (fun r hr => hr 0) (Cert.ReferenceIdeal.Proof.run m' g')

end Cert.KernelIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Equation
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The reference's frame. -/
theorem frame_reference : Cert.quiescent_ReferenceIdeal := fun m ρ _ => Cert.ReferenceIdeal.Gen.frame m ρ

/-- The five claims. -/
theorem claim : Cert.Claim := ⟨Cert.Kernel.Gen.facts, Cert.KernelIdeal.Gen.facts, Cert.ReferenceIdeal.Gen.facts,
  Cert.KernelIdeal.Proof.frame_kernel, Cert.KernelIdeal.Proof.frame_kernelIdeal, frame_reference, trivial,
  Cert.KernelIdeal.Proof.algebraic⟩

end Cert.Proof

end
